-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DD105EC#32 (((Real.sqrt 96)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 256]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![256, 1024]⟩ (Layout.meshBlock [2, 4, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![256, 1024]⟩ (Layout.meshBlock [2, 4, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bitsLt_bf16_f32 : FTy.bits .bf16 < FTy.bits .f32
  bcast_S_S2x256x1024 : S_.BroadcastsInDim S2x256x1024 (![] : Fin 0 → Fin S2x256x1024.rank)
  bcast_S_S1024x64 : S_.BroadcastsInDim S1024x64 (![] : Fin 0 → Fin S1024x64.rank)
  bcast_S_S64x1024 : S_.BroadcastsInDim S64x1024 (![] : Fin 0 → Fin S64x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn_part1 {F : FTy → Type} [FloatOps F] (main_arg5 : FVec F S1024x512 .bf16) (main_arg6 : FVec F S1024x32 .bf16) (main_arg7 : FVec F S1024x1024 .bf16) (main_v3 : IVec S2x256x1024 1) (main_v7 : IVec S1024x64 1) (main_v11 : IVec S64x1024 1) (main_v15 : IVec S64x1024 1) (main_v17 : FVec F S1024x1024 .f32) (main_v18 : FVec F S1024x1024 .f32) : IVec S2x256x1024 1 × IVec S1024x64 1 × IVec S64x1024 1 × IVec S64x1024 1 × IVec S1024x1024 1 × IVec S1024x512 1 × IVec S1024x32 1 × IVec S1024x1024 1 :=
  let main_v19 : IVec S1024x1024 1 := cmpf .olt main_v17 main_v18
  let main_v20 : FVec F S1024x512 .f32 := (extf .f32 · bitsLt_bf16_f32) main_arg5
  let main_v21 : FVec F S1024x512 .f32 := Host.absf main_v20
  let main_cst_4 : FVec F S_ .f32 := constant S_ .f32 0x7F800000#32
  let main_v22 : FVec F S1024x512 .f32 := broadcastInDim S1024x512 ![] bcast_S_S1024x512 main_cst_4
  let main_v23 : IVec S1024x512 1 := cmpf .olt main_v21 main_v22
  let main_v24 : FVec F S1024x32 .f32 := (extf .f32 · bitsLt_bf16_f32) main_arg6
  let main_v25 : FVec F S1024x32 .f32 := Host.absf main_v24
  let main_cst_5 : FVec F S_ .f32 := constant S_ .f32 0x7F800000#32
  let main_v26 : FVec F S1024x32 .f32 := broadcastInDim S1024x32 ![] bcast_S_S1024x32 main_cst_5
  let main_v27 : IVec S1024x32 1 := cmpf .olt main_v25 main_v26
  let main_v28 : FVec F S1024x1024 .f32 := (extf .f32 · bitsLt_bf16_f32) main_arg7
  let main_v29 : FVec F S1024x1024 .f32 := Host.absf main_v28
  let main_cst_6 : FVec F S_ .f32 := constant S_ .f32 0x7F800000#32
  let main_v30 : FVec F S1024x1024 .f32 := broadcastInDim S1024x1024 ![] bcast_S_S1024x1024 main_cst_6
  let main_v31 : IVec S1024x1024 1 := cmpf .olt main_v29 main_v30
  (main_v3, main_v7, main_v11, main_v15, main_v19, main_v23, main_v27, main_v31)

def fn {F : FTy → Type} [FloatOps F] (main_arg0 : FVec F S2x256x1024 .bf16) (main_arg1 : FVec F S1024x64 .bf16) (main_arg2 : FVec F S64x1024 .bf16) (main_arg3 : FVec F S64x1024 .bf16) (main_arg4 : FVec F S1024x1024 .bf16) (main_arg5 : FVec F S1024x512 .bf16) (main_arg6 : FVec F S1024x32 .bf16) (main_arg7 : FVec F S1024x1024 .bf16) : IVec S2x256x1024 1 × IVec S1024x64 1 × IVec S64x1024 1 × IVec S64x1024 1 × IVec S1024x1024 1 × IVec S1024x512 1 × IVec S1024x32 1 × IVec S1024x1024 1 :=
  let main_v0 : FVec F S2x256x1024 .f32 := (extf .f32 · bitsLt_bf16_f32) main_arg0
  let main_v1 : FVec F S2x256x1024 .f32 := Host.absf main_v0
  let main_cst : FVec F S_ .f32 := constant S_ .f32 0x7F800000#32
  let main_v2 : FVec F S2x256x1024 .f32 := broadcastInDim S2x256x1024 ![] bcast_S_S2x256x1024 main_cst
  let main_v3 : IVec S2x256x1024 1 := cmpf .olt main_v1 main_v2
  let main_v4 : FVec F S1024x64 .f32 := (extf .f32 · bitsLt_bf16_f32) main_arg1
  let main_v5 : FVec F S1024x64 .f32 := Host.absf main_v4
  let main_cst_0 : FVec F S_ .f32 := constant S_ .f32 0x7F800000#32
  let main_v6 : FVec F S1024x64 .f32 := broadcastInDim S1024x64 ![] bcast_S_S1024x64 main_cst_0
  let main_v7 : IVec S1024x64 1 := cmpf .olt main_v5 main_v6
  let main_v8 : FVec F S64x1024 .f32 := (extf .f32 · bitsLt_bf16_f32) main_arg2
  let main_v9 : FVec F S64x1024 .f32 := Host.absf main_v8
  let main_cst_1 : FVec F S_ .f32 := constant S_ .f32 0x7F800000#32
  let main_v10 : FVec F S64x1024 .f32 := broadcastInDim S64x1024 ![] bcast_S_S64x1024 main_cst_1
  let main_v11 : IVec S64x1024 1 := cmpf .olt main_v9 main_v10
  let main_v12 : FVec F S64x1024 .f32 := (extf .f32 · bitsLt_bf16_f32) main_arg3
  let main_v13 : FVec F S64x1024 .f32 := Host.absf main_v12
  let main_cst_2 : FVec F S_ .f32 := constant S_ .f32 0x7F800000#32
  let main_v14 : FVec F S64x1024 .f32 := broadcastInDim S64x1024 ![] bcast_S_S64x1024 main_cst_2
  let main_v15 : IVec S64x1024 1 := cmpf .olt main_v13 main_v14
  let main_v16 : FVec F S1024x1024 .f32 := (extf .f32 · bitsLt_bf16_f32) main_arg4
  let main_v17 : FVec F S1024x1024 .f32 := Host.absf main_v16
  let main_cst_3 : FVec F S_ .f32 := constant S_ .f32 0x7F800000#32
  let main_v18 : FVec F S1024x1024 .f32 := broadcastInDim S1024x1024 ![] bcast_S_S1024x1024 main_cst_3
  fn_part1 (F := F) main_arg5 main_arg6 main_arg7 main_v3 main_v7 main_v11 main_v15 main_v17 main_v18
-- ==== Pre_finite_ReferenceIdeal.lean ====
abbrev S2x256x1024 : Shape := ⟨3, ![2, 256, 1024]⟩
abbrev S1024x256 : Shape := ⟨2, ![1024, 256]⟩
abbrev S256x1024 : Shape := ⟨2, ![256, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bitsLt_bf16_f32 : FTy.bits .bf16 < FTy.bits .f32
  bcast_S_S2x256x1024 : S_.BroadcastsInDim S2x256x1024 (![] : Fin 0 → Fin S2x256x1024.rank)
  bcast_S_S1024x256 : S_.BroadcastsInDim S1024x256 (![] : Fin 0 → Fin S1024x256.rank)
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn_part1 {F : FTy → Type} [FloatOps F] (main_arg5 : FVec F S1024x512 .bf16) (main_arg6 : FVec F S1024x32 .bf16) (main_arg7 : FVec F S1024x1024 .bf16) (main_v3 : IVec S2x256x1024 1) (main_v7 : IVec S1024x256 1) (main_v11 : IVec S256x1024 1) (main_v15 : IVec S256x1024 1) (main_v17 : FVec F S1024x1024 .f32) (main_v18 : FVec F S1024x1024 .f32) : IVec S2x256x1024 1 × IVec S1024x256 1 × IVec S256x1024 1 × IVec S256x1024 1 × IVec S1024x1024 1 × IVec S1024x512 1 × IVec S1024x32 1 × IVec S1024x1024 1 :=
  let main_v19 : IVec S1024x1024 1 := cmpf .olt main_v17 main_v18
  let main_v20 : FVec F S1024x512 .f32 := (extf .f32 · bitsLt_bf16_f32) main_arg5
  let main_v21 : FVec F S1024x512 .f32 := Host.absf main_v20
  let main_cst_4 : FVec F S_ .f32 := constant S_ .f32 0x7F800000#32
  let main_v22 : FVec F S1024x512 .f32 := broadcastInDim S1024x512 ![] bcast_S_S1024x512 main_cst_4
  let main_v23 : IVec S1024x512 1 := cmpf .olt main_v21 main_v22
  let main_v24 : FVec F S1024x32 .f32 := (extf .f32 · bitsLt_bf16_f32) main_arg6
  let main_v25 : FVec F S1024x32 .f32 := Host.absf main_v24
  let main_cst_5 : FVec F S_ .f32 := constant S_ .f32 0x7F800000#32
  let main_v26 : FVec F S1024x32 .f32 := broadcastInDim S1024x32 ![] bcast_S_S1024x32 main_cst_5
  let main_v27 : IVec S1024x32 1 := cmpf .olt main_v25 main_v26
  let main_v28 : FVec F S1024x1024 .f32 := (extf .f32 · bitsLt_bf16_f32) main_arg7
  let main_v29 : FVec F S1024x1024 .f32 := Host.absf main_v28
  let main_cst_6 : FVec F S_ .f32 := constant S_ .f32 0x7F800000#32
  let main_v30 : FVec F S1024x1024 .f32 := broadcastInDim S1024x1024 ![] bcast_S_S1024x1024 main_cst_6
  let main_v31 : IVec S1024x1024 1 := cmpf .olt main_v29 main_v30
  (main_v3, main_v7, main_v11, main_v15, main_v19, main_v23, main_v27, main_v31)

def fn {F : FTy → Type} [FloatOps F] (main_arg0 : FVec F S2x256x1024 .bf16) (main_arg1 : FVec F S1024x256 .bf16) (main_arg2 : FVec F S256x1024 .bf16) (main_arg3 : FVec F S256x1024 .bf16) (main_arg4 : FVec F S1024x1024 .bf16) (main_arg5 : FVec F S1024x512 .bf16) (main_arg6 : FVec F S1024x32 .bf16) (main_arg7 : FVec F S1024x1024 .bf16) : IVec S2x256x1024 1 × IVec S1024x256 1 × IVec S256x1024 1 × IVec S256x1024 1 × IVec S1024x1024 1 × IVec S1024x512 1 × IVec S1024x32 1 × IVec S1024x1024 1 :=
  let main_v0 : FVec F S2x256x1024 .f32 := (extf .f32 · bitsLt_bf16_f32) main_arg0
  let main_v1 : FVec F S2x256x1024 .f32 := Host.absf main_v0
  let main_cst : FVec F S_ .f32 := constant S_ .f32 0x7F800000#32
  let main_v2 : FVec F S2x256x1024 .f32 := broadcastInDim S2x256x1024 ![] bcast_S_S2x256x1024 main_cst
  let main_v3 : IVec S2x256x1024 1 := cmpf .olt main_v1 main_v2
  let main_v4 : FVec F S1024x256 .f32 := (extf .f32 · bitsLt_bf16_f32) main_arg1
  let main_v5 : FVec F S1024x256 .f32 := Host.absf main_v4
  let main_cst_0 : FVec F S_ .f32 := constant S_ .f32 0x7F800000#32
  let main_v6 : FVec F S1024x256 .f32 := broadcastInDim S1024x256 ![] bcast_S_S1024x256 main_cst_0
  let main_v7 : IVec S1024x256 1 := cmpf .olt main_v5 main_v6
  let main_v8 : FVec F S256x1024 .f32 := (extf .f32 · bitsLt_bf16_f32) main_arg2
  let main_v9 : FVec F S256x1024 .f32 := Host.absf main_v8
  let main_cst_1 : FVec F S_ .f32 := constant S_ .f32 0x7F800000#32
  let main_v10 : FVec F S256x1024 .f32 := broadcastInDim S256x1024 ![] bcast_S_S256x1024 main_cst_1
  let main_v11 : IVec S256x1024 1 := cmpf .olt main_v9 main_v10
  let main_v12 : FVec F S256x1024 .f32 := (extf .f32 · bitsLt_bf16_f32) main_arg3
  let main_v13 : FVec F S256x1024 .f32 := Host.absf main_v12
  let main_cst_2 : FVec F S_ .f32 := constant S_ .f32 0x7F800000#32
  let main_v14 : FVec F S256x1024 .f32 := broadcastInDim S256x1024 ![] bcast_S_S256x1024 main_cst_2
  let main_v15 : IVec S256x1024 1 := cmpf .olt main_v13 main_v14
  let main_v16 : FVec F S1024x1024 .f32 := (extf .f32 · bitsLt_bf16_f32) main_arg4
  let main_v17 : FVec F S1024x1024 .f32 := Host.absf main_v16
  let main_cst_3 : FVec F S_ .f32 := constant S_ .f32 0x7F800000#32
  let main_v18 : FVec F S1024x1024 .f32 := broadcastInDim S1024x1024 ![] bcast_S_S1024x1024 main_cst_3
  fn_part1 (F := F) main_arg5 main_arg6 main_arg7 main_v3 main_v7 main_v11 main_v15 main_v17 main_v18
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S4x512x64 : Shape := ⟨3, ![4, 512, 64]⟩
abbrev S4x64x1024 : Shape := ⟨3, ![4, 64, 1024]⟩
abbrev S3x3 : Shape := ⟨2, ![3, 3]⟩
abbrev S_ : Shape := ⟨0, ![]⟩
abbrev S512x1024 : Shape := ⟨2, ![512, 1024]⟩
abbrev S512x64 : Shape := ⟨2, ![512, 64]⟩
abbrev S1x512x64 : Shape := ⟨3, ![1, 512, 64]⟩
abbrev S1x64x1024 : Shape := ⟨3, ![1, 64, 1024]⟩
abbrev S1x1 : Shape := ⟨2, ![1, 1]⟩
abbrev S512x512 : Shape := ⟨2, ![512, 512]⟩
abbrev S512x32 : Shape := ⟨2, ![512, 32]⟩
abbrev S256x32 : Shape := ⟨2, ![256, 32]⟩
abbrev S256x256 : Shape := ⟨2, ![256, 256]⟩
abbrev S512x256 : Shape := ⟨2, ![512, 256]⟩
abbrev S256x1024 : Shape := ⟨2, ![256, 1024]⟩
abbrev S256x64 : Shape := ⟨2, ![256, 64]⟩
abbrev S256 : Shape := ⟨1, ![256]⟩
abbrev S256x1 : Shape := ⟨2, ![256, 1]⟩
abbrev S1x256x1024 : Shape := ⟨3, ![1, 256, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .local _ .vmem, ⟨0, _⟩ => ⟨S2x256x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x32, .bf16⟩
  | .local _ .vmem, ⟨7, _⟩ => ⟨S1024x1024, .bf16⟩
  | .local _ .vmem, ⟨8, _⟩ => ⟨S2x256x1024, .f32⟩
  | .local _ .vmem, ⟨9, _⟩ => ⟨S4x512x64, .bf16⟩
  | .local _ .vmem, ⟨10, _⟩ => ⟨S4x64x1024, .bf16⟩
  | .local _ .vmem, ⟨11, _⟩ => ⟨S4x64x1024, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5 : BitVec 32 := 16#32
  let v12 : BitVec 32 := Scalar.muli v2 c16_i32_5
  let v13 : BitVec 32 := Scalar.addi c0_i32 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let v11 : BitVec 32 := Scalar.remsi v10 c4_i32_3
  let c4_i32_6 : BitVec 32 := 4#32
  let v14 : BitVec 32 := Scalar.muli v11 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v20 : BitVec 32 := Scalar.muli v2 c16_i32_11
  let v21 : BitVec 32 := Scalar.addi c0_i32_12 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v18 : BitVec 32 := Scalar.addi v5 c2_i32_8
  let c4_i32_9 : BitVec 32 := 4#32
  let v19 : BitVec 32 := Scalar.remsi v18 c4_i32_9
  let c4_i32_13 : BitVec 32 := 4#32
  let v22 : BitVec 32 := Scalar.muli v19 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v24 : BitVec 32 := Scalar.muli v8 c1_i32_14
  let v25 : BitVec 32 := Scalar.addi v23 v24
  v25.toNat
def k0_dev3 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v28 : BitVec 32 := Scalar.muli v2 c16_i32_17
  let v29 : BitVec 32 := Scalar.addi c0_i32_18 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v26 : BitVec 32 := Scalar.addi v5 c3_i32
  let c4_i32_15 : BitVec 32 := 4#32
  let v27 : BitVec 32 := Scalar.remsi v26 c4_i32_15
  let c4_i32_19 : BitVec 32 := 4#32
  let v30 : BitVec 32 := Scalar.muli v27 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v32 : BitVec 32 := Scalar.muli v8 c1_i32_20
  let v33 : BitVec 32 := Scalar.addi v31 v32
  v33.toNat
def k0_dev4 (d0 : Dev nD) : Nat :=
  let c0_i32_48 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v56 : BitVec 32 := Scalar.muli v2 c16_i32_47
  let v57 : BitVec 32 := Scalar.addi c0_i32_48 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v54 : BitVec 32 := Scalar.addi v5 c1_i32_39
  let c4_i32_40 : BitVec 32 := 4#32
  let v55 : BitVec 32 := Scalar.remsi v54 c4_i32_40
  let c4_i32_49 : BitVec 32 := 4#32
  let v58 : BitVec 32 := Scalar.muli v55 c4_i32_49
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v60 : BitVec 32 := Scalar.muli v8 c1_i32_50
  let v61 : BitVec 32 := Scalar.addi v59 v60
  v61.toNat
def k0_dev5 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v72 : BitVec 32 := Scalar.muli v2 c16_i32_63
  let v73 : BitVec 32 := Scalar.addi c0_i32_64 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v70 : BitVec 32 := Scalar.addi v5 c1_i32_55
  let c4_i32_56 : BitVec 32 := 4#32
  let v71 : BitVec 32 := Scalar.remsi v70 c4_i32_56
  let c4_i32_65 : BitVec 32 := 4#32
  let v74 : BitVec 32 := Scalar.muli v71 c4_i32_65
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v76 : BitVec 32 := Scalar.muli v8 c1_i32_66
  let v77 : BitVec 32 := Scalar.addi v75 v76
  v77.toNat
def k0_dev6 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v88 : BitVec 32 := Scalar.muli v2 c16_i32_79
  let v89 : BitVec 32 := Scalar.addi c0_i32_80 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_71 : BitVec 32 := 1#32
  let v86 : BitVec 32 := Scalar.addi v5 c1_i32_71
  let c4_i32_72 : BitVec 32 := 4#32
  let v87 : BitVec 32 := Scalar.remsi v86 c4_i32_72
  let c4_i32_81 : BitVec 32 := 4#32
  let v90 : BitVec 32 := Scalar.muli v87 c4_i32_81
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v92 : BitVec 32 := Scalar.muli v8 c1_i32_82
  let v93 : BitVec 32 := Scalar.addi v91 v92
  v93.toNat
def k0_dev7 (d0 : Dev nD) : Nat :=
  let c0_i32_96 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_95 : BitVec 32 := 16#32
  let v104 : BitVec 32 := Scalar.muli v2 c16_i32_95
  let v105 : BitVec 32 := Scalar.addi c0_i32_96 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_87 : BitVec 32 := 2#32
  let v102 : BitVec 32 := Scalar.addi v5 c2_i32_87
  let c4_i32_88 : BitVec 32 := 4#32
  let v103 : BitVec 32 := Scalar.remsi v102 c4_i32_88
  let c4_i32_97 : BitVec 32 := 4#32
  let v106 : BitVec 32 := Scalar.muli v103 c4_i32_97
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v108 : BitVec 32 := Scalar.muli v8 c1_i32_98
  let v109 : BitVec 32 := Scalar.addi v107 v108
  v109.toNat
def k0_dev8 (d0 : Dev nD) : Nat :=
  let c0_i32_112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_111 : BitVec 32 := 16#32
  let v120 : BitVec 32 := Scalar.muli v2 c16_i32_111
  let v121 : BitVec 32 := Scalar.addi c0_i32_112 v120
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_103 : BitVec 32 := 2#32
  let v118 : BitVec 32 := Scalar.addi v5 c2_i32_103
  let c4_i32_104 : BitVec 32 := 4#32
  let v119 : BitVec 32 := Scalar.remsi v118 c4_i32_104
  let c4_i32_113 : BitVec 32 := 4#32
  let v122 : BitVec 32 := Scalar.muli v119 c4_i32_113
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v124 : BitVec 32 := Scalar.muli v8 c1_i32_114
  let v125 : BitVec 32 := Scalar.addi v123 v124
  v125.toNat
def k0_dev9 (d0 : Dev nD) : Nat :=
  let c0_i32_128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_127 : BitVec 32 := 16#32
  let v136 : BitVec 32 := Scalar.muli v2 c16_i32_127
  let v137 : BitVec 32 := Scalar.addi c0_i32_128 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_119 : BitVec 32 := 2#32
  let v134 : BitVec 32 := Scalar.addi v5 c2_i32_119
  let c4_i32_120 : BitVec 32 := 4#32
  let v135 : BitVec 32 := Scalar.remsi v134 c4_i32_120
  let c4_i32_129 : BitVec 32 := 4#32
  let v138 : BitVec 32 := Scalar.muli v135 c4_i32_129
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v140 : BitVec 32 := Scalar.muli v8 c1_i32_130
  let v141 : BitVec 32 := Scalar.addi v139 v140
  v141.toNat
def k0_dev10 (d0 : Dev nD) : Nat :=
  let c0_i32_144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_143 : BitVec 32 := 16#32
  let v152 : BitVec 32 := Scalar.muli v2 c16_i32_143
  let v153 : BitVec 32 := Scalar.addi c0_i32_144 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_135 : BitVec 32 := 3#32
  let v150 : BitVec 32 := Scalar.addi v5 c3_i32_135
  let c4_i32_136 : BitVec 32 := 4#32
  let v151 : BitVec 32 := Scalar.remsi v150 c4_i32_136
  let c4_i32_145 : BitVec 32 := 4#32
  let v154 : BitVec 32 := Scalar.muli v151 c4_i32_145
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v156 : BitVec 32 := Scalar.muli v8 c1_i32_146
  let v157 : BitVec 32 := Scalar.addi v155 v156
  v157.toNat
def k0_dev11 (d0 : Dev nD) : Nat :=
  let c0_i32_160 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_159 : BitVec 32 := 16#32
  let v168 : BitVec 32 := Scalar.muli v2 c16_i32_159
  let v169 : BitVec 32 := Scalar.addi c0_i32_160 v168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_151 : BitVec 32 := 3#32
  let v166 : BitVec 32 := Scalar.addi v5 c3_i32_151
  let c4_i32_152 : BitVec 32 := 4#32
  let v167 : BitVec 32 := Scalar.remsi v166 c4_i32_152
  let c4_i32_161 : BitVec 32 := 4#32
  let v170 : BitVec 32 := Scalar.muli v167 c4_i32_161
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v172 : BitVec 32 := Scalar.muli v8 c1_i32_162
  let v173 : BitVec 32 := Scalar.addi v171 v172
  v173.toNat
def k0_dev12 (d0 : Dev nD) : Nat :=
  let c0_i32_176 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_175 : BitVec 32 := 16#32
  let v184 : BitVec 32 := Scalar.muli v2 c16_i32_175
  let v185 : BitVec 32 := Scalar.addi c0_i32_176 v184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_167 : BitVec 32 := 3#32
  let v182 : BitVec 32 := Scalar.addi v5 c3_i32_167
  let c4_i32_168 : BitVec 32 := 4#32
  let v183 : BitVec 32 := Scalar.remsi v182 c4_i32_168
  let c4_i32_177 : BitVec 32 := 4#32
  let v186 : BitVec 32 := Scalar.muli v183 c4_i32_177
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v188 : BitVec 32 := Scalar.muli v8 c1_i32_178
  let v189 : BitVec 32 := Scalar.addi v187 v188
  v189.toNat
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 96)⁻¹ : ℝ) : EReal)
  | _ => none
-- ==== ReferenceIdeal.lean ====
abbrev S2x256x1024 : Shape := ⟨3, ![2, 256, 1024]⟩
abbrev S1024x256 : Shape := ⟨2, ![1024, 256]⟩
abbrev S256x1024 : Shape := ⟨2, ![256, 1024]⟩
abbrev S1024x1024 : Shape := ⟨2, ![1024, 1024]⟩
abbrev S1024x512 : Shape := ⟨2, ![1024, 512]⟩
abbrev S1024x32 : Shape := ⟨2, ![1024, 32]⟩
abbrev S2x256x256 : Shape := ⟨3, ![2, 256, 256]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S_ : Shape := ⟨0, ![]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 52
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x256, .bf16⟩
  | .hbm, ⟨2, _⟩ => ⟨S256x1024, .bf16⟩
  | .hbm, ⟨3, _⟩ => ⟨S256x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .hbm, ⟨9, _⟩ => ⟨S1024x256, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024x512, .f32⟩
  | .hbm, ⟨14, _⟩ => ⟨S1024x32, .f32⟩
  | .hbm, ⟨15, _⟩ => ⟨S1024x1024, .f32⟩
  | .hbm, ⟨16, _⟩ => ⟨S2x256x256, .f32⟩
  | .hbm, ⟨17, _⟩ => ⟨S2x256x1024, .f32⟩
  | .hbm, ⟨18, _⟩ => ⟨S2x256x16x64, .f32⟩
  | .hbm, ⟨19, _⟩ => ⟨S2x256x1024, .f32⟩
  | .hbm, ⟨20, _⟩ => ⟨S2x256x16x64, .f32⟩
  | .hbm, ⟨21, _⟩ => ⟨S2x256x1024, .f32⟩
  | .hbm, ⟨22, _⟩ => ⟨S2x256x16x64, .f32⟩
  | .hbm, ⟨23, _⟩ => ⟨S2x256x512, .f32⟩
  | .hbm, ⟨24, _⟩ => ⟨S2x256x16x32, .f32⟩
  | .hbm, ⟨25, _⟩ => ⟨S2x256x32, .f32⟩
  | .hbm, ⟨26, _⟩ => ⟨S2x256x1x32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x16x256x256, .f32⟩
  | .hbm, ⟨32, _⟩ => ⟨S2x256x16x32, .f32⟩
  | .hbm, ⟨33, _⟩ => ⟨S2x16x256x256, .f32⟩
  | .hbm, ⟨34, _⟩ => ⟨S2x16x256x256, .f32⟩
  | .hbm, ⟨35, _⟩ => ⟨S2x16x256x256, .f32⟩
  | .hbm, ⟨36, _⟩ => ⟨S2x16x256x256, .f32⟩
  | .hbm, ⟨37, _⟩ => ⟨S_, .f32⟩
  | .hbm, ⟨38, _⟩ => ⟨S2x16x256, .f32⟩
  | .hbm, ⟨39, _⟩ => ⟨S2x16x256x1, .f32⟩
  | .hbm, ⟨40, _⟩ => ⟨S2x16x256x256, .f32⟩
  | .hbm, ⟨41, _⟩ => ⟨S2x16x256x256, .f32⟩
  | .hbm, ⟨42, _⟩ => ⟨S2x16x256x256, .f32⟩
  | .hbm, ⟨43, _⟩ => ⟨S_, .f32⟩
  | .hbm, ⟨44, _⟩ => ⟨S2x16x256, .f32⟩
  | .hbm, ⟨45, _⟩ => ⟨S2x16x256x1, .f32⟩
  | .hbm, ⟨46, _⟩ => ⟨S2x16x256x256, .f32⟩
  | .hbm, ⟨47, _⟩ => ⟨S2x16x256x256, .f32⟩
  | .hbm, ⟨48, _⟩ => ⟨S2x16x64x256, .f32⟩
  | .hbm, ⟨49, _⟩ => ⟨S2x256x16x64, .f32⟩
  | .hbm, ⟨50, _⟩ => ⟨S2x256x1024, .f32⟩
  | .hbm, ⟨51, _⟩ => ⟨S2x256x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.KernelIdeal.Slots.lean ====
/-
# The devices of one ring and the four slots of an exchange buffer

The mesh has axes x = 2, y = 4, z = 4; the exchange runs along y. A device's three exchange buffers have four slots
each: slot 0 takes the device's own block, slot `n` the block of the device `n` places before it on the y axis. What a
buffer holds once all blocks have landed is ONE function of its index (`full`), so each landed slot is a restriction of
it and the four slots join to the whole buffer.
-/
module

public import proofs.«01_k».proof.Proof.Gen.KernelIdeal
public import Idealize.ShloMosaic.Lib.Pipeline.Launch
public import Idealize.ShloMosaic.Lib.Pipeline.Kit
public import Idealize.ShloMosaic.Lib.Tactic
public import Idealize.ShloMosaic.Lib.ViewIndex

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The ring along y -/

set_option backward.proofsInPublic true in
/-- The device `n` places after `c` along y, same x and z (device number = 16 x + 4 y + z). -/
def pr (n : ℕ) (c : Dev nD) : Dev nD :=
  ⟨16 * (c.val / 16) + 4 * (((c.val / 4) % 4 + n) % 4) + c.val % 4, by
    have := c.isLt; simp only [nD] at this ⊢; omega⟩

theorem pr_val (n : ℕ) (c : Dev nD) : (pr n c).val = 16 * (c.val / 16) + 4 * (((c.val / 4) % 4 + n) % 4) + c.val % 4 := rfl

theorem pr_pr (a b : ℕ) (c : Dev nD) : pr a (pr b c) = pr (a + b) c := by
  apply Fin.ext; simp only [pr_val]; omega
theorem pr_four (c : Dev nD) : pr 4 c = c := by apply Fin.ext; rw [pr_val]; omega
theorem pr_zero (c : Dev nD) : pr 0 c = c := by apply Fin.ext; rw [pr_val]; omega
theorem pr_back {n : ℕ} (h : n ≤ 4) (c : Dev nD) : pr (4 - n) (pr n c) = c := by
  rw [pr_pr, Nat.sub_add_cancel h, pr_four]
theorem pr_forth {n : ℕ} (h : n ≤ 4) (c : Dev nD) : pr n (pr (4 - n) c) = c := by
  rw [pr_pr, Nat.add_sub_cancel' h, pr_four]
theorem pr_eq_iff {n : ℕ} (h : n ≤ 4) (d c : Dev nD) : pr n d = c ↔ d = pr (4 - n) c :=
  ⟨fun e => by rw [← e, pr_back h], fun e => by rw [e, pr_forth h]⟩

/-- Going `n` places around the ring, as a permutation of the devices. -/
def prE (n : ℕ) (h : n ≤ 4) : Dev nD ≃ Dev nD := ⟨pr n, pr (4 - n), pr_back h, pr_forth h⟩

/-! ## Slots -/

theorem l0 : 0 < 4 := by decide
theorem l1 : 1 < 4 := by decide
theorem l2 : 2 < 4 := by decide
theorem l3 : 3 < 4 := by decide

section Slot
variable {p q : ℕ}

theorem inb_slot {n : ℕ} (hn : n < 4) : ∀ a, (![n, 0, 0] : Fin 3 → ℕ) a + (⟨3, ![1, p, q]⟩ : Shape).size a ≤ (⟨3, ![4, p, q]⟩ : Shape).size a := by
  intro a; match a with
  | ⟨0, _⟩ => exact hn
  | ⟨1, _⟩ => exact (Nat.zero_add p).le
  | ⟨2, _⟩ => exact (Nat.zero_add q).le

/-- The rectangle of slot `n`. -/
abbrev slotR (p q n : ℕ) (hn : n < 4) : Rect ⟨3, ![4, p, q]⟩ :=
  Rect.unit (s := ⟨3, ![4, p, q]⟩) ![n, 0, 0] (⟨3, ![1, p, q]⟩ : Shape).size (inb_slot hn)

/-- Slot `n` of an exchange buffer, as the copies name it. -/
abbrev slot (M : Memref sig .tc .vmem ⟨3, ![4, p, q]⟩ .bf16) (n : ℕ) (hn : n < 4)
    (sq : (⟨3, ![1, p, q]⟩ : Shape).Squeezes ⟨2, ![p, q]⟩) : Memref sig .tc .vmem ⟨2, ![p, q]⟩ .bf16 :=
  (M.slice (Rect.unit (s := ⟨3, ![4, p, q]⟩) ![n, 0, 0] (⟨3, ![1, p, q]⟩ : Shape).size (inb_slot hn)) (fun _ => rfl)).squeeze ⟨2, ![p, q]⟩ sq

/-- An index of the buffer, seen inside the slot it falls in. -/
def inSlot (i : (⟨3, ![4, p, q]⟩ : Shape).Idx) : (⟨3, ![1, p, q]⟩ : Shape).Idx := fun a => match a with
  | ⟨0, _⟩ => ⟨0, Nat.one_pos⟩
  | ⟨1, _⟩ => ⟨(i 1).val, (i 1).isLt⟩
  | ⟨2, _⟩ => ⟨(i 2).val, (i 2).isLt⟩

theorem inSlot_emb {n : ℕ} (hn : n < 4) (j : (⟨3, ![1, p, q]⟩ : Shape).Idx) : inSlot ((slotR p q n hn).emb j) = j := by
  funext a; match a with
  | ⟨0, _⟩ => exact Fin.ext (by have := (j 0).isLt; change 0 = (j 0).val; change (j 0).val < 1 at this; omega)
  | ⟨1, _⟩ => exact Fin.ext (by change 0 + 1 * (j 1).val = (j 1).val; omega)
  | ⟨2, _⟩ => exact Fin.ext (by change 0 + 1 * (j 2).val = (j 2).val; omega)

theorem emb_zero {n : ℕ} (hn : n < 4) (j : (⟨3, ![1, p, q]⟩ : Shape).Idx) : ((slotR p q n hn).emb j 0).val = n := by
  have := (j 0).isLt; change (j 0).val < 1 at this
  change n + 1 * (j 0).val = n; omega

variable {F : FTy → Type}
variable (m : (ℓ : Loc nD τ sig) → Buf (Elt F) ℓ)
variable (M : Memref sig .tc .vmem ⟨3, ![4, p, q]⟩ .bf16) (sq : (⟨3, ![1, p, q]⟩ : Shape).Squeezes ⟨2, ![p, q]⟩)
variable (v : Dev nD → Vec F ⟨3, ![1, p, q]⟩ .bf16)

/-- The exchange buffer of device `c` once every block is in: slot `n` holds the block `v` of the device `n` places
    before `c`. (What lies outside the view is the launch memory's.) -/
def full (c : Dev nD) : Buf (Elt F) (M.view.loc (c : Thread nD τ)) :=
  M.view.write (Elt F) (m (M.view.loc (c : Thread nD τ))) (fun i => v (pr (4 - (i 0).val) c) (inSlot i)) Finset.univ

/-- Slot `n` read out of the full buffer is the block of the device `n` places before. -/
theorem read_full (c : Dev nD) {n : ℕ} (hn : n < 4) :
    M.view.readAt (Elt F) (slotR p q n hn).toLoadRect (full m M v c) = v (pr (4 - n) c) := by
  funext j
  rw [View.readAt_apply]
  unfold full
  rw [View.read_write_univ]
  show v (pr (4 - ((slotR p q n hn).emb j 0).val) c) (inSlot ((slotR p q n hn).emb j)) = _
  rw [emb_zero, inSlot_emb]

theorem read_full' (c : Dev nD) {n : ℕ} (hn : n < 4) :
    (M.access (slotR p q n hn) : View sig _ _ _ _).read (Elt F) (full m M v c) = v (pr (4 - n) c) := read_full m M v c hn

/-- The buffer elements of slot `n`. -/
abbrev slotSet (n : ℕ) (hn : n < 4) : Finset M.view.ty.Idx := (slot M n hn sq).view.set

theorem slot_set {n : ℕ} (hn : n < 4) : (slot M n hn sq).view.set = (M.access (slotR p q n hn) : View sig _ _ _ _).set :=
  View.set_reshape _ _

/-- Storing the block into slot 0 makes the slot the full buffer's. -/
theorem store_full (c : Dev nD) (f : Buf (Elt F) (M.view.loc (c : Thread nD τ))) :
    ∀ i : M.view.ty.Idx, i ∈ (slot M 0 l0 sq).view.set →
      (M.access (slotR p q 0 l0) : View sig _ _ _ _).write (Elt F) f (v c) Finset.univ i = full m M v c i := by
  intro i hi
  rw [slot_set] at hi
  obtain ⟨x, -, rfl⟩ := Finset.mem_map.mp hi
  refine View.eq_of_read_eq ?_
  rw [View.read_write_univ, read_full', Nat.sub_zero, pr_four]

/-- A copy from slot 0 into slot `n` of the device `n` places after makes that slot the full buffer's there. -/
theorem copy_full (c : Dev nD) {n : ℕ} (hn : n < 4) (f : Buf (Elt F) (M.view.loc (pr n c : Thread nD τ))) :
    ∀ i : M.view.ty.Idx, i ∈ (slot M n hn sq).view.set →
      (slot M n hn sq).view.write (Elt F) f ((slot M 0 l0 sq).view.read (Elt F) (full m M v c)) Finset.univ i
        = full m M v (pr n c) i := by
  intro i hi
  obtain ⟨x, -, rfl⟩ := Finset.mem_map.mp hi
  refine View.eq_of_read_eq ?_
  rw [View.read_write_univ]
  show (M.access (slotR p q 0 l0) : View sig _ _ _ _).read (Elt F) (full m M v c) _ = (M.access (slotR p q n hn) : View sig _ _ _ _).read (Elt F) (full m M v (pr n c)) _
  rw [read_full', read_full', pr_back (Nat.le_of_lt hn), Nat.sub_zero, pr_four]

/-! ### The four slots make the buffer -/

theorem mem_slotR {n : ℕ} (hn : n < 4) (i : (⟨3, ![4, p, q]⟩ : Shape).Idx) : i ∈ (slotR p q n hn).set ↔ (i 0).val = n := by
  rw [Rect.mem_set_unit]
  constructor
  · intro h
    have := h 0
    change n ≤ (i 0).val ∧ (i 0).val < n + 1 at this
    omega
  · intro h a
    match a with
    | ⟨0, _⟩ => change n ≤ (i 0).val ∧ (i 0).val < n + 1; omega
    | ⟨1, _⟩ => exact ⟨Nat.zero_le _, by change (i 1).val < 0 + p; have := (i 1).isLt; change (i 1).val < p at this; omega⟩
    | ⟨2, _⟩ => exact ⟨Nat.zero_le _, by change (i 2).val < 0 + q; have := (i 2).isLt; change (i 2).val < q at this; omega⟩

theorem slots_cover : (Finset.univ : Finset (⟨3, ![4, p, q]⟩ : Shape).Idx)
    = (slotR p q 0 l0).set ∪ ((slotR p q 1 l1).set ∪ ((slotR p q 2 l2).set ∪ (slotR p q 3 l3).set)) := by
  ext i
  have := (i 0).isLt; change (i 0).val < 4 at this
  simp only [Finset.mem_univ, Finset.mem_union, mem_slotR, true_iff]
  omega

theorem slot_disj {a b : ℕ} (ha : a < 4) (hb : b < 4) (h : a ≠ b) : Disjoint (slotR p q a ha).set (slotR p q b hb).set := by
  rw [Finset.disjoint_left]; intro i hi hj; rw [mem_slotR] at hi hj; exact h (hi.symm.trans hj)

section Pts
variable {Ix Name U Lvl : Type} [DecidableEq Ix] [DecidableEq Name] [URA U]
local notation "𝕄" => MT nD τ sig Ix (Elt F) Name U Lvl

/-- Slot `n` of the buffer on device `c`, held at share `s` and contents `f`. -/
def slotPts (c : Dev nD) (n : ℕ) (hn : n < 4) (s : PosShare TreeShare) (f : Buf (Elt F) (M.view.loc (c : Thread nD τ))) : sProp 𝕄 :=
  (slot M n hn sq).view.loc (c : Thread nD τ) ↦[(slot M n hn sq).view.set]{s} f

instance slotPts_storable (c : Dev nD) (n : ℕ) (hn : n < 4) (s) (f) : BI.Storable (upEmb : UEmb _ 𝕄) (slotPts M sq c n hn s f) := by
  unfold slotPts; infer_instance

/-- The whole buffer is its four slots. -/
theorem slots_split (c : Dev nD) (s : PosShare TreeShare) (f : Buf (Elt F) (M.view.loc (c : Thread nD τ))) :
    (M.view.loc (c : Thread nD τ) ↦[M.view.set]{s} f : sProp 𝕄)
      ⊣⊢ iprop(slotPts M sq c 0 l0 s f ∗ slotPts M sq c 1 l1 s f ∗ slotPts M sq c 2 l2 s f ∗ slotPts M sq c 3 l3 s f) := by
  have hM : M.view.set = slotSet M sq 0 l0 ∪ (slotSet M sq 1 l1 ∪ (slotSet M sq 2 l2 ∪ slotSet M sq 3 l3)) := by
    rw [slotSet, slotSet, slotSet, slotSet, slot_set, slot_set, slot_set, slot_set, View.set_slice, View.set_slice, View.set_slice, View.set_slice]
    rw [← Finset.map_union, ← Finset.map_union, ← Finset.map_union, ← slots_cover]; rfl
  have hd : ∀ {a b : ℕ} (ha : a < 4) (hb : b < 4), a ≠ b → Disjoint (slotSet M sq a ha) (slotSet M sq b hb) := fun ha hb h => by
    rw [slotSet, slotSet, slot_set, slot_set, View.set_slice, View.set_slice]
    exact (Finset.disjoint_map _).mpr (slot_disj ha hb h)
  unfold slotPts
  have e1 := pointsTo_union (Ix := Ix) (Name := Name) (U := U) (Lvl := Lvl) (Val := Elt F) (ℓ := M.view.loc (c : Thread nD τ)) (q := s) (f := f)
    (hd l2 l3 (by decide))
  have e2 := pointsTo_union (Ix := Ix) (Name := Name) (U := U) (Lvl := Lvl) (Val := Elt F) (ℓ := M.view.loc (c : Thread nD τ)) (q := s) (f := f)
    (Finset.disjoint_union_right.mpr ⟨hd l1 l2 (by decide), hd l1 l3 (by decide)⟩)
  have e3 := pointsTo_union (Ix := Ix) (Name := Name) (U := U) (Lvl := Lvl) (Val := Elt F) (ℓ := M.view.loc (c : Thread nD τ)) (q := s) (f := f)
    (Finset.disjoint_union_right.mpr ⟨hd l0 l1 (by decide), Finset.disjoint_union_right.mpr ⟨hd l0 l2 (by decide), hd l0 l3 (by decide)⟩⟩)
  show ((M.view.loc (c : Thread nD τ) ↦[M.view.set]{s} f : sProp 𝕄)) ⊣⊢ iprop((M.view.loc (c : Thread nD τ) ↦[slotSet M sq 0 l0]{s} f) ∗ (M.view.loc (c : Thread nD τ) ↦[slotSet M sq 1 l1]{s} f) ∗ (M.view.loc (c : Thread nD τ) ↦[slotSet M sq 2 l2]{s} f) ∗ (M.view.loc (c : Thread nD τ) ↦[slotSet M sq 3 l3]{s} f))
  rw [hM]
  refine e3.trans (sep_congr .rfl (e2.trans (sep_congr .rfl e1)))
end Pts
end Slot

end Cert.KernelIdeal.Proto
-- ==== Proof.KernelIdeal.Sched.lean ====
/-
# The protocol of the exchange

Per device: one barrier cell, and per peer distance `i + 1` (i = 0, 1, 2) and buffer `t` (0 the latent block, 1 and 2 the
two weight blocks) one send cell and one receive cell.

* Barrier. A device signals each of its three peers once and waits for 3. The peer at distance `e + 1` pays duty `e`, and
  hands over its own slots `e + 1`: the slots the waiting device copies into.
* Copy `(i, t)`. Slot 0 of buffer `t` goes to slot `i + 1` of the device `i + 1` places after. The send cell gives the
  copy's share of slot 0 back, the receive cell hands the peer its slot holding the sender's block.

Every cell has one round.
-/
module

public import proofs.«01_k».proof.Proof.KernelIdeal.Slots
public import proofs.«01_k».proof.Proof.Gen.KernelIdeal.Skeleton
public import proofs.«01_k».proof.Proof.Gen.KernelIdeal.Launch

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

theorem inbS (i t : Fin 3) : ∀ a, (![i.val, t.val] : Fin 2 → ℕ) a + S1x1.size a ≤ S3x3.size a := by
  intro a; match a with
  | ⟨0, _⟩ => exact i.isLt
  | ⟨1, _⟩ => exact t.isLt

/-- Semaphore `(i, t)` of a three by three array. -/
abbrev semAt (A : DmaSems sig S3x3) (i t : Fin 3) : DmaSem sig :=
  ((A.slice (Rect.unit (s := S3x3) ![i.val, t.val] S1x1.size (inbS i t))).squeeze S_ squeezes_S1x1_S_).sem

/-- The runtime's barrier semaphore. -/
abbrev barS : Sem sig := (SemArray.scalar (sig.barrier 0 rfl) : Sems sig S_).sem

/-- The kinds of cell of one device: the barrier, send `(i, t)`, receive `(i, t)`. -/
abbrev Kd : Type := Option (Bool × Fin 3 × Fin 3)
abbrev kS (i t : Fin 3) : Kd := some (false, i, t)
abbrev kR (i t : Fin 3) : Kd := some (true, i, t)

/-- The semaphore of a kind. -/
def csem : Kd → SemLoc sig
  | none => .reg barS
  | some (false, i, t) => .dma (semAt cc0_scratch3 i t)
  | some (true, i, t) => .dma (semAt cc0_scratch4 i t)

theorem csem_inj : Function.Injective csem := by
  intro a b; revert a b; decide +kernel

abbrev kcell (ck : Dev nD × Kd) : GSem nD τ sig := ((ck.1 : Thread nD τ), csem ck.2)

theorem kcell_inj {a b : Dev nD × Kd} : kcell a = kcell b ↔ a = b := by
  constructor
  · intro h
    have h1 := congrArg (fun g : GSem nD τ sig => g.1.1) h
    have h2 := csem_inj (congrArg Prod.snd h)
    exact Prod.ext h1 h2
  · intro h; rw [h]

/-- The kind of a semaphore, when it is one of the protocol's. -/
def kindOf (sm : SemLoc sig) : Option Kd := Function.partialInv csem sm

theorem kindOf_csem (k : Kd) : kindOf (csem k) = some k := Function.partialInv_left csem_inj k
theorem kindOf_some {sm : SemLoc sig} {k : Kd} (h : kindOf sm = some k) : csem k = sm :=
  (Function.partialInv_of_injective csem_inj k sm).mp h

/-! ## Buffers and contents -/

abbrev cM : Memref sig .tc .vmem S4x512x64 .bf16 := Memref.whole cc0_scratch0
abbrev kM : Memref sig .tc .vmem S4x64x1024 .bf16 := Memref.whole cc0_scratch1
abbrev vM : Memref sig .tc .vmem S4x64x1024 .bf16 := Memref.whole cc0_scratch2

/-- What each operand's staging buffer holds on device `c`. -/
def a0 (c : Dev nD) : (cc0_stg0_0 : Ref sig .tc).ty.Contents (Elt F) := (win0_0.blk (0 : Fin 1)).view.read (Elt F) ((s₀ m ρ).mem ((c : Thread nD τ).loc main_arg0))
def a1 (c : Dev nD) : (cc0_stg1_0 : Ref sig .tc).ty.Contents (Elt F) := (win0_1.blk (0 : Fin 1)).view.read (Elt F) ((s₀ m ρ).mem ((c : Thread nD τ).loc main_arg1))
def a2 (c : Dev nD) : (cc0_stg2_0 : Ref sig .tc).ty.Contents (Elt F) := (win0_2.blk (0 : Fin 1)).view.read (Elt F) ((s₀ m ρ).mem ((c : Thread nD τ).loc main_arg2))
def a3 (c : Dev nD) : (cc0_stg3_0 : Ref sig .tc).ty.Contents (Elt F) := (win0_3.blk (0 : Fin 1)).view.read (Elt F) ((s₀ m ρ).mem ((c : Thread nD τ).loc main_arg3))
def a4 (c : Dev nD) : (cc0_stg4_0 : Ref sig .tc).ty.Contents (Elt F) := (win0_4.blk (0 : Fin 1)).view.read (Elt F) ((s₀ m ρ).mem ((c : Thread nD τ).loc main_arg4))
def a5 (c : Dev nD) : (cc0_stg5_0 : Ref sig .tc).ty.Contents (Elt F) := (win0_5.blk (0 : Fin 1)).view.read (Elt F) ((s₀ m ρ).mem ((c : Thread nD τ).loc main_arg5))
def a6 (c : Dev nD) : (cc0_stg6_0 : Ref sig .tc).ty.Contents (Elt F) := (win0_6.blk (0 : Fin 1)).view.read (Elt F) ((s₀ m ρ).mem ((c : Thread nD τ).loc main_arg6))
def a7 (c : Dev nD) : (cc0_stg7_0 : Ref sig .tc).ty.Contents (Elt F) := (win0_7.blk (0 : Fin 1)).view.read (Elt F) ((s₀ m ρ).mem ((c : Thread nD τ).loc main_arg7))

/-- The blocks a device stores into slot 0 of its three buffers. -/
def vC (c : Dev nD) : Vec F S1x512x64 .bf16 := k0_pay5 (a0 m ρ c) (a1 m ρ c)
def vK (c : Dev nD) : Vec F S1x64x1024 .bf16 := k0_pay6 (a2 m ρ c)
def vV (c : Dev nD) : Vec F S1x64x1024 .bf16 := k0_pay7 (a3 m ρ c)

abbrev fC (c : Dev nD) := full m cM (vC m ρ) c
abbrev fK (c : Dev nD) := full m kM (vK m ρ) c
abbrev fV (c : Dev nD) := full m vM (vV m ρ) c

abbrev cPts (c : Dev nD) (n : ℕ) (hn : n < 4) (s : PosShare TreeShare) (f : Buf (Elt F) ((cM : Memref sig .tc .vmem S4x512x64 .bf16).view.loc (c : Thread nD τ))) : sProp 𝕄 :=
  slotPts (p := 512) (q := 64) cM squeezes_S1x512x64_S512x64 c n hn s f
abbrev kPts (c : Dev nD) (n : ℕ) (hn : n < 4) (s : PosShare TreeShare) (f : Buf (Elt F) ((kM : Memref sig .tc .vmem S4x64x1024 .bf16).view.loc (c : Thread nD τ))) : sProp 𝕄 :=
  slotPts (p := 64) (q := 1024) kM squeezes_S1x64x1024_S64x1024 c n hn s f
abbrev vPts (c : Dev nD) (n : ℕ) (hn : n < 4) (s : PosShare TreeShare) (f : Buf (Elt F) ((vM : Memref sig .tc .vmem S4x64x1024 .bf16).view.loc (c : Thread nD τ))) : sProp 𝕄 :=
  slotPts (p := 64) (q := 1024) vM squeezes_S1x64x1024_S64x1024 c n hn s f

/-- Slot `n` of buffer `t` on device `c`, holding what it ends up with. -/
def slotAt (t : Fin 3) (c : Dev nD) (n : ℕ) (hn : n < 4) (s : PosShare TreeShare) : sProp 𝕄 :=
  match t with
  | 0 => cPts c n hn s (fC m ρ c)
  | 1 => kPts c n hn s (fK m ρ c)
  | 2 => vPts c n hn s (fV m ρ c)

instance slotAt_storable (t : Fin 3) (c : Dev nD) (n : ℕ) (hn : n < 4) (s) : BI.Storable (upEmb : UEmb _ 𝕄) (slotAt m ρ t c n hn s) := by
  unfold slotAt; split <;> infer_instance

/-- Slots `n` of the three buffers on device `c`, at whatever they hold. -/
def slotsAny (c : Dev nD) (n : ℕ) (hn : n < 4) : sProp 𝕄 :=
  iprop((∃ f, cPts c n hn fullShare f) ∗ (∃ f, kPts c n hn fullShare f) ∗ (∃ f, vPts c n hn fullShare f))

omit [FloatOps F] [Named F] in
instance slotsAny_storable (c : Dev nD) (n : ℕ) (hn : n < 4) : BI.Storable (upEmb : UEmb _ 𝕄) (slotsAny (F := F) c n hn) := by
  unfold slotsAny
  haveI h1 := BI.Storable.exists (upEmb : UEmb _ 𝕄) fun f => cPts (F := F) c n hn fullShare f
  haveI h2 := BI.Storable.exists (upEmb : UEmb _ 𝕄) fun f => kPts (F := F) c n hn fullShare f
  haveI h3 := BI.Storable.exists (upEmb : UEmb _ 𝕄) fun f => vPts (F := F) c n hn fullShare f
  infer_instance

theorem lS (i : Fin 3) : i.val + 1 < 4 := by omega

/-- The share of slot 0 that copy `i` reads through. -/
def shareOf : Fin 3 → PosShare TreeShare
  | 0 => fullShare.left
  | 1 => fullShare.right.left
  | 2 => fullShare.right.right

/-- The credit of one copy of buffer `t`. -/
def crd : Fin 3 → ℕ
  | 0 => (slot (p := 512) (q := 64) cM 0 l0 squeezes_S1x512x64_S512x64).view.dmaCredit
  | 1 => (slot (p := 64) (q := 1024) kM 0 l0 squeezes_S1x64x1024_S64x1024).view.dmaCredit
  | 2 => (slot (p := 64) (q := 1024) vM 0 l0 squeezes_S1x64x1024_S64x1024).view.dmaCredit

theorem crd_pos (t : Fin 3) : 0 < crd t := by
  unfold crd; split <;> exact View.dmaCredit_pos _ (by decide)

/-! ## The schedule -/

def barPay (c : Dev nD) (e : Fin 3) : sProp 𝕄 := slotsAny (pr (e.val + 1) c) (e.val + 1) (lS e)
def sendPay (c : Dev nD) (i t : Fin 3) : sProp 𝕄 := slotAt m ρ t c 0 l0 (shareOf i)
def recvPay (c : Dev nD) (i t : Fin 3) : sProp 𝕄 := slotAt m ρ t c (i.val + 1) (lS i) fullShare

def pay (c : Dev nD) (k : Kd) (e : Fin 3) : sProp 𝕄 :=
  match k with
  | none => barPay c e
  | some (false, i, t) => sendPay m ρ c i t
  | some (true, i, t) => recvPay m ρ c i t

instance pay_storable (c : Dev nD) (k : Kd) (e : Fin 3) : BI.Storable (upEmb : UEmb _ 𝕄) (pay m ρ c k e) := by
  unfold pay barPay sendPay recvPay; split <;> infer_instance

def amt : Kd → ℕ
  | none => 1
  | some (_, _, t) => crd t
theorem amt_pos (k : Kd) : 0 < amt k := by unfold amt; split; exact Nat.one_pos; exact crd_pos _

def dut : Kd → Finset (Fin 3)
  | none => Finset.univ
  | some _ => {0}

def Rd : Rounds.Schedule (GSem nD τ sig) (Fin 3) 𝕄 where
  duties g r := if r = 0 ∧ g.1.2 = .tc then (match kindOf g.2 with | some k => dut k | none => ∅) else ∅
  unitless _ := False
  amount g _ _ := match kindOf g.2 with | some k => amt k | none => 1
  payload g _ d := match kindOf g.2 with | some k => pay m ρ g.1.1 k d | none => iprop(emp)
  amount_pos g _ _ _ := by
    split
    · exact amt_pos _
    · exact Nat.one_pos

instance Rd_payload_storable (g : GSem nD τ sig) (r : ℕ) (d : Fin 3) :
    BI.Storable (upEmb : UEmb _ 𝕄) ((Rd (F := F) m ρ).payload g r d) := by
  show BI.Storable upEmb (match kindOf g.2 with | some k => pay m ρ g.1.1 k d | none => iprop(emp))
  split <;> infer_instance

section Sched
variable (c : Dev nD) (k : Kd)

theorem duties_eq : (Rd (F := F) m ρ).duties (kcell (c, k)) 0 = dut k := by
  dsimp only [Rd]; rw [if_pos ⟨rfl, rfl⟩, kindOf_csem]
theorem duties_later (g : GSem nD τ sig) : ∀ r, 1 ≤ r → (Rd (F := F) m ρ).duties g r = ∅ :=
  fun r hr => by dsimp only [Rd]; exact if_neg fun h => by omega
theorem amount_eq (d : Fin 3) : (Rd (F := F) m ρ).amount (kcell (c, k)) 0 d = amt k := by
  dsimp only [Rd]; rw [kindOf_csem]
theorem payload_eq (d : Fin 3) : (Rd (F := F) m ρ).payload (kcell (c, k)) 0 d = pay m ρ c k d := by
  dsimp only [Rd]; rw [kindOf_csem]

theorem expect_bar : (Rd (F := F) m ρ).expect (kcell (c, none)) 0 = 3 := by
  unfold Schedule.expect Schedule.amountOf
  rw [duties_eq, Finset.sum_congr rfl fun d _ => amount_eq m ρ c none d]; rfl
theorem expect_xfer (x : Bool × Fin 3 × Fin 3) : (Rd (F := F) m ρ).expect (kcell (c, some x)) 0 = crd x.2.2 := by
  unfold Schedule.expect Schedule.amountOf
  rw [duties_eq, dut, Finset.sum_singleton, amount_eq]; rfl

theorem rest_bar : bigSep ((Rd (F := F) m ρ).duties (kcell (c, none)) 0 \ ∅) (fun d => (Rd (F := F) m ρ).payload (kcell (c, none)) 0 d)
    = iprop(barPay c 0 ∗ barPay c 1 ∗ barPay c 2) := by
  rw [Finset.sdiff_empty, duties_eq, dut, bigSep_univ_eq_bigSepL [0, 1, 2] (by decide) (by decide), bigSepL_cons_cons, bigSepL_cons_cons, bigSepL_singleton]
  simp only [payload_eq]
  rfl
theorem rest_xfer (x : Bool × Fin 3 × Fin 3) :
    bigSep ((Rd (F := F) m ρ).duties (kcell (c, some x)) 0 \ ∅) (fun d => (Rd (F := F) m ρ).payload (kcell (c, some x)) 0 d) = pay m ρ c (some x) 0 := by
  rw [Finset.sdiff_empty, duties_eq, dut, bigSep_singleton, payload_eq]

end Sched

/-! ## What a device owes; levels -/

/-- The tally of a list of units owed, the head peeled first. -/
def dues : List (GSem nD τ sig × ℕ) → CellTallies nD τ sig Unit
  | [] => 0
  | a :: l => dues l + tallyAt a.1 () a.2

/-- What device `c` owes by its copies, in program order: the credit of each peer's receive cell. -/
def owedR (c : Dev nD) : List (GSem nD τ sig × ℕ) :=
  [(kcell (pr 1 c, kR 0 0), crd 0), (kcell (pr 1 c, kR 0 1), crd 1), (kcell (pr 1 c, kR 0 2), crd 2),
   (kcell (pr 2 c, kR 1 0), crd 0), (kcell (pr 2 c, kR 1 1), crd 1), (kcell (pr 2 c, kR 1 2), crd 2),
   (kcell (pr 3 c, kR 2 0), crd 0), (kcell (pr 3 c, kR 2 1), crd 1), (kcell (pr 3 c, kR 2 2), crd 2)]
/-- At launch: a barrier unit to each peer too, paid first. -/
def owed₀ (c : Dev nD) : List (GSem nD τ sig × ℕ) :=
  (kcell (pr 1 c, none), 1) :: (kcell (pr 2 c, none), 1) :: (kcell (pr 3 c, none), 1) :: owedR c
def O₀ (c : Dev nD) : CellTallies nD τ sig Unit := dues (owed₀ c)

theorem dues_pos {l : List (GSem nD τ sig × ℕ)} {g : GSem nD τ sig} {u : Unit} (h : 0 < dues l g u) : ∃ a ∈ l, a.1 = g := by
  induction l with
  | nil => exact absurd h (Nat.lt_irrefl 0)
  | cons a l ih =>
    by_cases hg : g = a.1
    · exact ⟨a, List.mem_cons_self, hg.symm⟩
    · unfold dues at h
      rw [Pi.add_apply, Finsupp.add_apply, tallyAt_apply, if_neg (fun h' => hg h'.1), Nat.add_zero] at h
      obtain ⟨b, hb, e⟩ := ih h
      exact ⟨b, List.mem_cons_of_mem _ hb, e⟩

def L (g : GSem nD τ sig) : Finset Unit := if g.1.2 = .tc then {()} else ∅
/-- barrier cells at 1, receive cells at 2, everything else at 0. -/
def lvK : Option Kd → ℕ
  | some none => 1
  | some (some (true, _, _)) => 2
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × Kd) (u : Unit) : lv (kcell ck) u = lvK (some ck.2) := by unfold lv; rw [kindOf_csem]

theorem owedR_lv (c : Dev nD) : ∀ a ∈ owedR c, lv a.1 () = 2 ∧ L a.1 = {()} := by
  unfold owedR
  simp only [List.forall_mem_cons, List.not_mem_nil, false_implies, implies_true, and_true, lv_kcell, L_tc]
  simp only [lvK, and_self]
theorem owed₀_lv (c : Dev nD) : ∀ a ∈ owed₀ c, 1 ≤ lv a.1 () ∧ L a.1 = {()} := by
  unfold owed₀
  simp only [List.forall_mem_cons, lv_kcell, L_tc]
  refine ⟨⟨le_rfl, trivial⟩, ⟨le_rfl, trivial⟩, ⟨le_rfl, trivial⟩, fun a ha => ?_⟩
  have := owedR_lv c a ha
  exact ⟨by omega, this.2⟩

omit [FloatOps F] [Named F] in
/-- A wait on a cell at level 0 is allowed whatever is owed at launch. -/
theorem mayWait_zero (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact hq.le) (fun g u hg => ?_)
    · obtain ⟨a, ha, rfl⟩ := dues_pos hg
      rw [(owed₀_lv c a ha).2]; exact Finset.mem_singleton_self _
    · obtain ⟨a, ha, rfl⟩ := dues_pos hg
      exact (owed₀_lv c a ha).1
  · rw [MayWait_zero]; iintro -; iempintro

omit [FloatOps F] [Named F] in
/-- At its barrier wait a device owes its peers' receive cells only. -/
theorem mayWait_bar (c : Dev nD) :
    (levAts L lv : sProp 𝕄) ⊢ MayWait (c : Thread nD τ) (csem none) () (dues (owedR c)) := by
  refine MayOwe.of_cut (L := L) (lev := lv) 1 (fun p hp => by rw [Finset.mem_singleton.mp hp, L_tc]; exact Finset.mem_singleton_self _)
      (fun g u hg => ?_) (fun p hp => by rw [Finset.mem_singleton.mp hp]; exact (lv_kcell (c, none) ()).le) (fun g u hg => ?_)
  · obtain ⟨a, ha, rfl⟩ := dues_pos hg
    rw [(owedR_lv c a ha).2]; exact Finset.mem_singleton_self _
  · obtain ⟨a, ha, rfl⟩ := dues_pos hg
    have := (owedR_lv c a ha).1; change 1 < lv a.1 (); omega

/-! ## The protocol's records: every cell's invariant, every cell at round 0 -/

def records (K : Dev nD × Kd → ℕ) : sProp 𝕄 :=
  bigSep Finset.univ fun ck : Dev nD × Kd => iprop(cellInv ER (Rd m ρ) (K ck) (kcell ck) ∗ reached ER (kcell ck) 0)

instance records_persistent (K : Dev nD × Kd → ℕ) : BI.Persistent (records m ρ K) := by unfold records; infer_instance

theorem inv_at (K : Dev nD × Kd → ℕ) (ck : Dev nD × Kd) : records m ρ K ⊢ cellInv ER (Rd m ρ) (K ck) (kcell ck) := by
  have h : records m ρ K ⊢ iprop(cellInv ER (Rd m ρ) (K ck) (kcell ck) ∗ reached ER (kcell ck) 0) := bigSep_elim (Finset.mem_univ ck)
  iintro H; ihave H := h $$ H; icases H with ⟨H, -⟩; iexact H
theorem reached_at (K : Dev nD × Kd → ℕ) (ck : Dev nD × Kd) : records m ρ K ⊢ reached ER (kcell ck) 0 := by
  have h : records m ρ K ⊢ iprop(cellInv ER (Rd m ρ) (K ck) (kcell ck) ∗ reached ER (kcell ck) 0) := bigSep_elim (Finset.mem_univ ck)
  iintro H; ihave H := h $$ H; icases H with ⟨-, H⟩; iexact H

/-! ## The stages of one copy -/

/-- Before the copy: the positions, the two duty tokens, the credit of the own receive cell. -/
def job0 (c : Dev nD) (i t : Fin 3) : sProp 𝕄 :=
  iprop(atPos ER (kcell (c, kS i t)) 0 ∅ 0 ∗ atPos ER (kcell (c, kR i t)) 0 ∅ 0
    ∗ dutyTok ER (kcell (c, kS i t)) 0 (0 : Fin 3) ∗ dutyTok ER (kcell (pr (i.val + 1) c, kR i t)) 0 (0 : Fin 3)
    ∗ cred (tallyAt (kcell (c, kR i t)) () (crd t)))
/-- Copied: the credits of both own cells. -/
def job1 (c : Dev nD) (i t : Fin 3) : sProp 𝕄 :=
  iprop(atPos ER (kcell (c, kS i t)) 0 ∅ 0 ∗ atPos ER (kcell (c, kR i t)) 0 ∅ 0
    ∗ cred (tallyAt (kcell (c, kR i t)) () (crd t)) ∗ cred (tallyAt (kcell (c, kS i t)) () (crd t)))
/-- The send waited for, its cell closed. -/
def job2 (c : Dev nD) (i t : Fin 3) : sProp 𝕄 :=
  iprop(atPos ER (kcell (c, kR i t)) 0 ∅ 0 ∗ cred (tallyAt (kcell (c, kR i t)) () (crd t)) ∗ semVal (kcell (c, kS i t)) 0)
/-- Both waited for, both cells closed. -/
def job3 (c : Dev nD) (i t : Fin 3) : sProp 𝕄 :=
  iprop(semVal (kcell (c, kS i t)) 0 ∗ semVal (kcell (c, kR i t)) 0)

abbrev 𝒱₀ : Variants := Variants.none

/-- Nothing more owed, whatever has been waited for. -/
def paid (c : Dev nD) : sProp 𝕄 := iprop(∃ W, owes (c : Thread nD τ) (0 : CellTallies nD τ sig Unit) W)

section Steps
variable (K : Dev nD × Kd → ℕ) (c : Dev nD)

/-- A signal to the peer `n` places after: the device's slots `4 - n` go with it. -/
theorem step_signal {n : ℕ} {d : Dev nD} (hd : d = pr n c) (e : Fin 3) {s : ℕ} (hs : s < 4) (hes : s = e.val + 1) (he : n + s = 4) (l : List (GSem nD τ sig × ℕ)) (W : Waits sig Unit)
    {α : Type} {Q : α → sProp 𝕄} {k : PUnit → Prog (TpuEff nD τ sig (Elt F) Λ₀ .tc) α} :
    records m ρ K
      ⊢ iprop(dutyTok ER (kcell (pr n c, none)) 0 e -∗ slotsAny c s hs
        -∗ owes (c : Thread nD τ) (dues ((kcell (pr n c, none), 1) :: l)) W
        -∗ (owes (c : Thread nD τ) (dues l) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) barS 1) k) Q) := by
  subst hd; subst hes
  iintro #HR Ht Hs Ho
  iapply (Rounds.wp_signal 𝒱₀ ER (Rd m ρ) (c : Thread nD τ) none (dst := (pr n c : Thread nD τ)) (κ := K (pr n c, none)) (sem := barS)
    (d := e) (by rw [show (((pr n c : Dev nD) : Thread nD τ), SemLoc.reg barS) = kcell (pr n c, none) from rfl, duties_eq]; exact Finset.mem_univ _)
    (amount_eq m ρ (pr n c) none e) () (dues l) rfl) $$ [Ht Hs Ho]
  isplitr; · iapply (inv_at m ρ K (pr n c, none)); iexact HR
  isplitl [Ho]; · iexact Ho
  isplitl [Ht]; · iexact Ht
  isplitl [Hs]
  · rw [show (Rd (F := F) m ρ).payload (((pr n c : Dev nD) : Thread nD τ), SemLoc.reg barS) 0 e = pay m ρ (pr n c) none e from payload_eq m ρ (pr n c) none e]
    unfold pay barPay
    rw [pr_pr, show e.val + 1 + n = 4 by omega, pr_four]; iexact Hs
  iapply (reached_at m ρ K (pr n c, none)); iexact HR

/-- The barrier wait: the peers' slots come with it, and the cell closes. -/
theorem step_barrier (W : Waits sig Unit) {α : Type} {Q : α → sProp 𝕄} {k : PUnit → Prog (TpuEff nD τ sig (Elt F) Λ₀ .tc) α} :
    records m ρ K
      ⊢ iprop(levAts L lv -∗ atPos ER (kcell (c, none)) 0 ∅ 0 -∗ cred (tallyAt (kcell (c, none)) () 3) -∗ owes (c : Thread nD τ) (dues (owedR c)) W
        -∗ ((slotsAny (pr 1 c) 1 l1 ∗ slotsAny (pr 2 c) 2 l2 ∗ slotsAny (pr 3 c) 3 l3 ∗ semVal (kcell (c, none)) 0 ∗ owes (c : Thread nD τ) (dues (owedR c)) (insert (csem none, ()) W))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 3) k) Q) := by
  iintro #HR #Hlev Hat Hc Ho Hk
  iapply (Rounds.wp_wait_rest_token 𝒱₀ ER (Rd m ρ) (c : Thread nD τ) none (κ := K (c, none)) (sm := csem none)
      (wpE_semWait_eq 𝒱₀ (c : Thread nD τ) none Set.univ) (Set.mem_univ _) () (O := dues (owedR c)) (W := W) (R := 0) (m := 0) (T := ∅)
      (by rw [show (((c : Dev nD) : Thread nD τ), csem none) = kcell (c, none) from rfl, expect_bar])) $$ [Hat Hc Ho]
  · isplitr; · iapply (inv_at m ρ K (c, none)); iexact HR
    isplitl [Hc]; · iexact Hc
    isplitl [Ho]; · iexact Ho
    isplitr; · iapply (mayWait_bar c); iexact Hlev
    iexact Hat
  iintro ⟨Ho, Hat, -, Hpay⟩
  ihave Hp := (Entails.of_eq (rest_bar m ρ c)) $$ Hpay
  icases Hp with ⟨H0, H1, H2⟩
  imod (Rounds.cell_close ER (Rd m ρ) (Set.mem_univ (K (c, none))) (fun h => h) (R := 0 + 1) (duties_later m ρ (kcell (c, none)))) $$ [Hat] with Hz
  · isplitr; · iapply (inv_at m ρ K (c, none)); iexact HR
    iexact Hat
  iapply Hk
  unfold barPay
  isplitl [H0]; · iexact H0
  isplitl [H1]; · iexact H1
  isplitl [H2]; · iexact H2
  isplitl [Hz]; · iexact Hz
  iexact Ho

/-- One copy: slot 0 of a buffer, through a share, into slot `i + 1` of the peer `i + 1` places after. -/
theorem step_copy {p q : ℕ} (M : Memref sig .tc .vmem ⟨3, ![4, p, q]⟩ .bf16) (sq : (⟨3, ![1, p, q]⟩ : Shape).Squeezes ⟨2, ![p, q]⟩)
    (v : Dev nD → Vec F ⟨3, ![1, p, q]⟩ .bf16) (i t : Fin 3)
    (hat : ∀ (d : Dev nD) (n : ℕ) (hn : n < 4) (s : PosShare TreeShare), slotPts M sq d n hn s (full m M v d) = slotAt m ρ t d n hn s)
    (hcr : (slot M 0 l0 sq).view.dmaCredit = crd t)
    {n : ℕ} (hn : n < 4) (hni : n = i.val + 1) {d : Dev nD} (hd : d = pr n c)
    (fn : Buf (Elt F) (M.view.loc (pr n c : Thread nD τ))) (l : List (GSem nD τ sig × ℕ)) (W : Waits sig Unit)
    {hsc : (slot M n hn sq : Memref sig (Dev.tc d : Thread nD τ).2.kind .vmem ⟨2, ![p, q]⟩ .bf16).view.ref.isScScratch = false}
    {hsrc : (slot M 0 l0 sq).view.WordExact} {hdst : (slot M n hn sq).view.WordExact}
    {hsem : DmaTarget.Typed .vmem (.dma (semAt cc0_scratch4 i t)) (.remote (Dev.tc d : Thread nD τ) (slot M n hn sq) (.dma (semAt cc0_scratch3 i t)) hsc)}
    {α : Type} {Q : α → sProp 𝕄} {k : PUnit → Prog (TpuEff nD τ sig (Elt F) Λ₀ .tc) α} :
    records m ρ K
      ⊢ iprop(job0 c i t -∗ slotAt m ρ t c 0 l0 (shareOf i) -∗ slotPts M sq (pr n c) n hn fullShare fn
        -∗ owes (c : Thread nD τ) (dues ((kcell (pr n c, kR i t), crd t) :: l)) W
        -∗ ((job1 c i t ∗ owes (c : Thread nD τ) (dues l) W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slot M 0 l0 sq) (.remote (Dev.tc d : Thread nD τ) (slot M n hn sq) (.dma (semAt cc0_scratch3 i t)) hsc) (.dma (semAt cc0_scratch4 i t)) hsrc hdst hsem) k) Q) := by
  subst hd; subst hni
  unfold job0 job1
  iintro #HR ⟨HaS, HaR, HtS, HtR, HcR⟩ Hs Hd Ho Hk
  ihave Hs := (Entails.of_eq (hat c 0 l0 (shareOf i)).symm) $$ Hs
  unfold slotPts
  iapply (Rounds.wp_send_pointsTo 𝒱₀ ER (Rd m ρ) (c : Thread nD τ) none (c' := (pr (i.val + 1) c : Thread nD τ)) (κ₁ := K (c, kS i t)) (κ₂ := K (pr (i.val + 1) c, kR i t))
    (src := slot M 0 l0 sq) (dst := slot M (i.val + 1) hn sq) (sS := csem (kS i t)) (sem := csem (kR i t))
    (r₁ := 0) (r₂ := 0) (d₁ := (0 : Fin 3)) (d₂ := (0 : Fin 3)) (fd := fn) (fs := full m M v c) (q := shareOf i)
    (by rw [show (((c : Dev nD) : Thread nD τ), csem (kS i t)) = kcell (c, kS i t) from rfl, duties_eq]; exact Finset.mem_singleton_self _)
    (by rw [show (((pr (i.val + 1) c : Dev nD) : Thread nD τ), csem (kR i t)) = kcell (pr (i.val + 1) c, kR i t) from rfl, duties_eq]; exact Finset.mem_singleton_self _)
    () () (crd t) hcr (amount_eq m ρ c (kS i t) 0) (amount_eq m ρ (pr (i.val + 1) c) (kR i t) 0) (dues l) rfl (W := W)
    (Entails.of_eq (by
      rw [show (Rd (F := F) m ρ).payload (((c : Dev nD) : Thread nD τ), csem (kS i t)) 0 0 = pay m ρ c (kS i t) 0 from payload_eq m ρ c (kS i t) 0]
      exact hat c 0 l0 (shareOf i)))
    (Entails.of_eq (by
      rw [show (Rd (F := F) m ρ).payload (((pr (i.val + 1) c : Dev nD) : Thread nD τ), csem (kR i t)) 0 0 = pay m ρ (pr (i.val + 1) c) (kR i t) 0 from payload_eq m ρ (pr (i.val + 1) c) (kR i t) 0]
      refine (pointsTo_congr (copy_full m M sq v c hn fn)).trans ?_
      exact hat (pr (i.val + 1) c) (i.val + 1) hn fullShare))) $$ [HtS HtR Hs Hd Ho]
  · isplitr; · iapply (inv_at m ρ K (c, kS i t)); iexact HR
    isplitr; · iapply (inv_at m ρ K (pr (i.val + 1) c, kR i t)); iexact HR
    isplitl [Hs]; · iexact Hs
    isplitl [Hd]; · iexact Hd
    isplitl [Ho]; · iexact Ho
    isplitl [HtS]; · iexact HtS
    isplitr; · iapply (reached_at m ρ K (c, kS i t)); iexact HR
    isplitl [HtR]; · iexact HtR
    iapply (reached_at m ρ K (pr (i.val + 1) c, kR i t)); iexact HR
  iintro ⟨HcS, Ho⟩
  iapply Hk
  isplitr [Ho]
  · isplitl [HaS]; · iexact HaS
    isplitl [HaR]; · iexact HaR
    isplitl [HcR]; · iexact HcR
    iexact HcS
  iexact Ho

/-- The wait on a send cell: the share of slot 0 back, the cell closed. -/
theorem step_waitS (i t : Fin 3) {sp sp' : Space} {s s' : Shape} {e e' : EltTy} {src : Memref sig .tc sp' s' e'} {dst : Memref sig .tc sp s e}
    (hcr : dst.view.dmaCredit = crd t) {hsrc : src.view.WordExact} {hdst : dst.view.WordExact} {α : Type} {Q : α → sProp 𝕄} {k : PUnit → Prog (TpuEff nD τ sig (Elt F) Λ₀ .tc) α} :
    records m ρ K
      ⊢ iprop(job1 c i t -∗ paid c
        -∗ ((job2 c i t ∗ slotAt m ρ t c 0 l0 (shareOf i) ∗ paid c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (semAt cc0_scratch3 i t) src dst hsrc hdst) k) Q) := by
  unfold job1 job2 paid
  iintro #HR ⟨HaS, HaR, HcR, HcS⟩ ⟨%W, Ho⟩ Hk
  iapply (Rounds.wp_wait_rest_token 𝒱₀ ER (Rd m ρ) (c : Thread nD τ) none (κ := K (c, kS i t)) (sm := csem (kS i t)) (k' := crd t)
      (fun KK => (wpE_waitDma2_eq 𝒱₀ (c : Thread nD τ) none Set.univ KK).trans (by rw [hcr]; rfl)) (Set.mem_univ _) () (O := 0) (W := W) (R := 0) (m := 0) (T := ∅)
      (by rw [Nat.zero_add]; exact (expect_xfer m ρ c (false, i, t)).symm)) $$ [HaS HcS Ho]
  · isplitr; · iapply (inv_at m ρ K (c, kS i t)); iexact HR
    isplitl [HcS]; · iexact HcS
    isplitl [Ho]; · iexact Ho
    isplitr; · rw [MayWait_zero]; iempintro
    iexact HaS
  iintro ⟨Ho, Hat, -, Hpay⟩
  ihave Hp := (Entails.of_eq ((rest_xfer m ρ c (false, i, t)).trans (show pay m ρ c (kS i t) 0 = slotAt m ρ t c 0 l0 (shareOf i) from rfl))) $$ Hpay
  imod (Rounds.cell_close ER (Rd m ρ) (Set.mem_univ (K (c, kS i t))) (fun h => h) (R := 0 + 1) (duties_later m ρ (kcell (c, kS i t)))) $$ [Hat] with Hz
  · isplitr; · iapply (inv_at m ρ K (c, kS i t)); iexact HR
    iexact Hat
  iapply Hk
  isplitl [HaR HcR Hz]
  · isplitl [HaR]; · iexact HaR
    isplitl [HcR]; · iexact HcR
    iexact Hz
  isplitl [Hp]; · iexact Hp
  iexists _; iexact Ho

/-- The wait on a receive cell: the slot with the sender's block, the cell closed. -/
theorem step_waitR (i t : Fin 3) {n : ℕ} (hn : n < 4) (hni : n = i.val + 1) {sp sp' : Space} {s s' : Shape} {e e' : EltTy} {src : Memref sig .tc sp' s' e'} {dst : Memref sig .tc sp s e}
    (hcr : dst.view.dmaCredit = crd t) {hsrc : src.view.WordExact} {hdst : dst.view.WordExact} {α : Type} {Q : α → sProp 𝕄} {k : PUnit → Prog (TpuEff nD τ sig (Elt F) Λ₀ .tc) α} :
    records m ρ K
      ⊢ iprop(job2 c i t -∗ paid c
        -∗ ((job3 c i t ∗ slotAt m ρ t c n hn fullShare ∗ paid c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (semAt cc0_scratch4 i t) src dst hsrc hdst) k) Q) := by
  subst hni
  unfold job2 job3 paid
  iintro #HR ⟨HaR, HcR, HzS⟩ ⟨%W, Ho⟩ Hk
  iapply (Rounds.wp_wait_rest_token 𝒱₀ ER (Rd m ρ) (c : Thread nD τ) none (κ := K (c, kR i t)) (sm := csem (kR i t)) (k' := crd t)
      (fun KK => (wpE_waitDma2_eq 𝒱₀ (c : Thread nD τ) none Set.univ KK).trans (by rw [hcr]; rfl)) (Set.mem_univ _) () (O := 0) (W := W) (R := 0) (m := 0) (T := ∅)
      (by rw [Nat.zero_add]; exact (expect_xfer m ρ c (true, i, t)).symm)) $$ [HaR HcR Ho]
  · isplitr; · iapply (inv_at m ρ K (c, kR i t)); iexact HR
    isplitl [HcR]; · iexact HcR
    isplitl [Ho]; · iexact Ho
    isplitr; · rw [MayWait_zero]; iempintro
    iexact HaR
  iintro ⟨Ho, Hat, -, Hpay⟩
  ihave Hp := (Entails.of_eq ((rest_xfer m ρ c (true, i, t)).trans (show pay m ρ c (kR i t) 0 = slotAt m ρ t c (i.val + 1) hn fullShare from rfl))) $$ Hpay
  imod (Rounds.cell_close ER (Rd m ρ) (Set.mem_univ (K (c, kR i t))) (fun h => h) (R := 0 + 1) (duties_later m ρ (kcell (c, kR i t)))) $$ [Hat] with Hz
  · isplitr; · iapply (inv_at m ρ K (c, kR i t)); iexact HR
    iexact Hat
  iapply Hk
  isplitl [HzS Hz]
  · isplitl [HzS]; · iexact HzS
    iexact Hz
  isplitl [Hp]; · iexact Hp
  iexists _; iexact Ho

end Steps

end Cert.KernelIdeal.Proto
-- ==== Proof.KernelIdeal.Rows.lean ====
/-
# The two rows the kernel stores, as one function of what it loads

`rows` names the values the body computes from its loads, in program order: the queries, the keys and values expanded
from the gathered blocks, the sixteen heads of each batch row and their projection.
-/
module

public import proofs.«01_k».proof.Proof.Gen.KernelIdeal.Skeleton

@[expose] public section

noncomputable section

namespace Cert.KernelIdeal.Proto

open Cert.KernelIdeal Cert.KernelIdeal.Gen
open Idealize.ShloMosaic

variable {F : FTy → Type} [FloatOps F] [Named F]

/-- The two stored rows from the loads: `v34` the input, `v198`, `v204`, `v210` the three query and key weights, `v472` …
    `v478` the four gathered latent blocks, `v481` … `v487` and `v490` … `v496` the four gathered blocks of the two
    expanding weights, `v503` the output projection. -/
def rows (v34 : Vec F S2x256x1024 .bf16) (v198 : Vec F S1024x1024 .bf16) (v204 : Vec F S1024x512 .bf16) (v210 : Vec F S1024x32 .bf16)
    (v472 v474 v476 v478 : Vec F S1x512x64 .bf16) (v481 v483 v485 v487 : Vec F S1x64x1024 .bf16) (v490 v492 v494 v496 : Vec F S1x64x1024 .bf16)
    (v503 : Vec F S1024x1024 .bf16) : FVec F S1x256x1024 .f32 × FVec F S1x256x1024 .f32 :=
  let v36 := k0_pay4 v34
  let v203 := k0_pay8 v36 v198
  let v209 := k0_pay9 v36 v204
  let v213 := k0_pay10 v36 v210
  let v216 := k0_pay11 v36 v204 v210
  let v219 := k0_pay12 v36 v204 v210
  let v222 := k0_pay13 v36 v204 v210
  let v225 := k0_pay14 v36 v204 v210
  let v228 := k0_pay15 v36 v204 v210
  let v231 := k0_pay16 v36 v204 v210
  let v234 := k0_pay17 v36 v204 v210
  let v237 := k0_pay18 v36 v204 v210
  let v240 := k0_pay19 v36 v204 v210
  let v243 := k0_pay20 v36 v204 v210
  let v246 := k0_pay21 v36 v204 v210
  let v247 := k0_pay22 v36 v204
  let v248 := k0_pay23 v36 v210
  let v249 := k0_pay24 v247 v248
  let v252 := k0_pay25 v209 v213
  let v255 := k0_pay26 v209 v213
  let v258 := k0_pay27 v209 v213
  let v261 := k0_pay28 v209 v213
  let v264 := k0_pay29 v209 v213
  let v267 := k0_pay30 v209 v213
  let v270 := k0_pay31 v209 v213
  let v273 := k0_pay32 v209 v213
  let v276 := k0_pay33 v209 v213
  let v279 := k0_pay34 v209 v213
  let v282 := k0_pay35 v209 v213
  let v285 := k0_pay36 v209 v213
  let v288 := k0_pay37 v209 v213
  let v291 := k0_pay38 v209 v213
  let v292 := k0_pay39 v209
  let v293 := k0_pay40 v213
  let v294 := k0_pay41 v292 v293
  let v297 := k0_pay42 v209 v213
  let v300 := k0_pay43 v209 v213
  let v303 := k0_pay44 v209 v213
  let v306 := k0_pay45 v209 v213
  let v309 := k0_pay46 v209 v213
  let v480 := k0_pay47 v472 v474 v476 v478
  let v489 := k0_pay48 v481 v483 v485 v487
  let v491 := k0_pay49 v490
  let v493 := k0_pay50 v492
  let v500 := k0_pay51 v480 v489
  let v502 := k0_pay52 v480 v491 v493 v494 v496
  let v504 := k0_pay53 v503
  let v519 := k0_pay54 v203 v216 v480 v489 v491 v493 v494 v496
  let v534 := k0_pay55 v203 v219 v480 v489 v491 v493 v494 v496
  let v535 := k0_pay56 v203
  let v536 := k0_pay57 v480 v489
  let v549 := k0_pay58 v222 v502 v535 v536
  let v564 := k0_pay59 v203 v225 v500 v502
  let v579 := k0_pay60 v203 v228 v500 v502
  let v582 := k0_pay61 v502
  let v583 := k0_pay62 v203 v500
  let v594 := k0_pay63 v231 v582 v583
  let v609 := k0_pay64 v203 v234 v500 v502
  let v624 := k0_pay65 v203 v237 v500 v502
  let v627 := k0_pay66 v502
  let v630 := k0_pay67 v203 v240 v500
  let v639 := k0_pay68 v627 v630
  let v654 := k0_pay69 v203 v243 v500 v502
  let v669 := k0_pay70 v203 v246 v500 v502
  let v672 := k0_pay71 v502
  let v677 := k0_pay73 v203 v249 v500
  let v678 := k0_pay74 v203 v249 v500
  let cst_547 := Scalar.ofBits .f32 0x3F800000#32
  let v684 := k0_pay75 v672 v677 v678
  let v699 := k0_pay76 v203 v252 v500 v502
  let v714 := k0_pay77 v203 v255 v500 v502
  let v722 := k0_pay79 v203 v258 v500
  let v724 := k0_pay80 v203 v258 v500 v502
  let row0 := k0_pay81 v203 v261 v500 v502 v504 v519 v534 v549 v564 v579 v594 v609 v624 v639 v654 v669 v684 v699 v714 v722 v724 cst_547
  let v764 := k0_pay82 v203 v264 v500 v502
  let v767 := k0_pay83 v502
  let v770 := k0_pay84 v203 v267 v500
  let v779 := k0_pay85 v767 v770
  let v794 := k0_pay86 v203 v270 v500 v502
  let v809 := k0_pay87 v203 v273 v500 v502
  let v812 := k0_pay88 v502
  let v815 := k0_pay89 v203 v276 v500
  let v817 := k0_pay90 v203 v276 v500
  let v824 := k0_pay91 v812 v815 v817
  let v839 := k0_pay92 v203 v279 v500 v502
  let v854 := k0_pay93 v203 v282 v500 v502
  let v862 := k0_pay95 v203 v285 v500
  let v864 := k0_pay96 v203 v285 v500 v502
  let v869 := k0_pay97 v862 v864
  let v884 := k0_pay98 v203 v288 v500 v502
  let v899 := k0_pay99 v203 v291 v500 v502
  let v909 := k0_pay101 v203 v294 v500 v502
  let v911 := k0_pay102 v203 v294 v500
  let v914 := k0_pay103 v909 v911
  let v929 := k0_pay104 v203 v297 v500 v502
  let v944 := k0_pay105 v203 v300 v500 v502
  let v959 := k0_pay106 v203 v303 v500 v502
  let cst_619 := Scalar.ofBits .f32 0x3F800000#32
  let v974 := k0_pay107 v203 v306 v500 v502
  let v982 := k0_pay109 v203 v309 v500
  let v984 := k0_pay110 v203 v309 v500 v502
  let v988 := k0_pay1 v982 v984 cst_619
  let v990 := k0_pay2 v764 v779 v794 v809 v824 v839 v854 v869 v884 v899 v914 v929 v944 v959 v974 v988
  let row1 := k0_pay3 v504 v990
  (row0, row1)

end Cert.KernelIdeal.Proto
-- ==== Proof.KernelIdeal.Mem.lean ====
/-
# What the body starts with and leaves, and its memory steps

A device leaves the two rows of the output staging buffer at `rows` of the gathered blocks and every semaphore cell
closed at zero. Everything is parametric in the float instance.
-/
module

public import proofs.«01_k».proof.Proof.KernelIdeal.Sched
public import proofs.«01_k».proof.Proof.KernelIdeal.Rows
public import proofs.«01_k».proof.Proof.Gen.KernelIdeal.Points
public import Idealize.ShloMosaic.Lib.ViewIndex
public import proofs.«01_k».proof.Proof.Gen.KernelIdeal.Skeleton
public import proofs.«01_k».proof.Proof.Gen.KernelIdeal.Launch

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the output staging buffer ends up with -/

/-- The two rows device `c` computes. -/
def rowsAt (c : Dev nD) : FVec F S1x256x1024 .f32 × FVec F S1x256x1024 .f32 :=
  rows (a0 m ρ c) (a4 m ρ c) (a5 m ρ c) (a6 m ρ c)
    (vC m ρ (pr (4 - 0) c)) (vC m ρ (pr (4 - 1) c)) (vC m ρ (pr (4 - 2) c)) (vC m ρ (pr (4 - 3) c))
    (vK m ρ (pr (4 - 0) c)) (vK m ρ (pr (4 - 1) c)) (vK m ρ (pr (4 - 2) c)) (vK m ρ (pr (4 - 3) c))
    (vV m ρ (pr (4 - 0) c)) (vV m ρ (pr (4 - 1) c)) (vV m ρ (pr (4 - 2) c)) (vV m ρ (pr (4 - 3) c))
    (a7 m ρ c)

/-- An index of the output, seen inside its row. -/
def inRow (i : S2x256x1024.Idx) : S1x256x1024.Idx := fun a => match a with
  | ⟨0, _⟩ => ⟨0, Nat.one_pos⟩
  | ⟨1, _⟩ => ⟨(i 1).val, (i 1).isLt⟩
  | ⟨2, _⟩ => ⟨(i 2).val, (i 2).isLt⟩

/-- The output from its two rows. -/
def joinRows (r : FVec F S1x256x1024 .f32 × FVec F S1x256x1024 .f32) : (cc0_stg8_0 : Ref sig .tc).ty.Contents (Elt F) :=
  fun i => if (i 0).val = 0 then r.1 (inRow i) else r.2 (inRow i)

def outAt (c : Dev nD) : (cc0_stg8_0 : Ref sig .tc).ty.Contents (Elt F) := joinRows (rowsAt m ρ c)

abbrev oM : Memref sig .tc .vmem S2x256x1024 .f32 := Memref.whole cc0_stg8_0
abbrev rowR (n : ℕ) (h : ∀ a, (![n, 0, 0] : Fin 3 → ℕ) a + S1x256x1024.size a ≤ S2x256x1024.size a) : Rect S2x256x1024 :=
  Rect.unit (s := S2x256x1024) ![n, 0, 0] S1x256x1024.size h

omit [FloatOps F] [Named F] in
/-- The two stores make it, whatever the buffer held. -/
theorem write_rows (f : (cc0_stg8_0 : Ref sig .tc).ty.Contents (Elt F)) (r0 r1 : FVec F S1x256x1024 .f32)
    (h0 : ∀ a, (![0, 0, 0] : Fin 3 → ℕ) a + S1x256x1024.size a ≤ S2x256x1024.size a)
    (h1 : ∀ a, (![1, 0, 0] : Fin 3 → ℕ) a + S1x256x1024.size a ≤ S2x256x1024.size a) :
    (oM.access (rowR 1 h1) : View sig .tc _ _ _).write (Elt F) ((oM.access (rowR 0 h0) : View sig .tc _ _ _).write (Elt F) f r0 Finset.univ) r1 Finset.univ
      = joinRows (r0, r1) := by
  have emb_in : ∀ (n : ℕ) (hn : ∀ a, (![n, 0, 0] : Fin 3 → ℕ) a + S1x256x1024.size a ≤ S2x256x1024.size a) (i : S2x256x1024.Idx), (i 0).val = n →
      (oM.access (rowR n hn) : View sig .tc _ _ _).emb (inRow i) = i := by
    intro n hn i hi
    funext a
    match a with
    | ⟨0, _⟩ => exact Fin.ext (by change n + 1 * 0 = (i 0).val; omega)
    | ⟨1, _⟩ => exact Fin.ext (by change 0 + 1 * (i 1).val = (i 1).val; omega)
    | ⟨2, _⟩ => exact Fin.ext (by change 0 + 1 * (i 2).val = (i 2).val; omega)
  funext i
  have hlt : (i 0).val < 2 := (i 0).isLt
  unfold joinRows
  by_cases hi : (i 0).val = 0
  · rw [if_pos hi, View.write_of_not_mem]
    · conv_lhs => rw [← emb_in 0 h0 i hi]
      rw [View.write_emb_of_mem _ _ (Finset.mem_univ _)]; rfl
    · intro hm
      obtain ⟨x, -, hx⟩ := Finset.mem_map.mp hm
      have := congrArg (fun j : S2x256x1024.Idx => (j 0).val) hx
      change 1 + 1 * (x 0).val = (i 0).val at this
      omega
  · rw [if_neg hi]
    conv_lhs => rw [← emb_in 1 h1 i (by omega)]
    rw [View.write_emb_of_mem _ _ (Finset.mem_univ _)]; rfl

/-! ## Loads and first stores -/

section Mem
variable (c : Dev nD)

/-- A load whose value is known. -/
theorem step_load {s : Shape} {e : EltTy} (M : Memref sig .tc .vmem s e) (f : Buf (Elt F) (M.view.loc (c : Thread nD τ))) {r : LoadRect s} {x : r.shape.Idx → Elt F e}
    (hx : M.view.readAt (Elt F) r f = x) {hl : M.view.LoadsAt r} {α : Type} {Q : α → sProp 𝕄} {k : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (k x) Q)
        -∗ wp frame (wpE (defs₀ (F := F)) 𝒱₀ (c : Thread nD τ) none) Set.univ (.op (.load M r hl) k) Q) := by
  rw [← hx]
  exact wp_load 𝒱₀ (c : Thread nD τ) none Set.univ (Finset.subset_univ _)

/-- One row of the output stored (the load before it is of no account). -/
theorem step_row (f : (cc0_stg8_0 : Ref sig .tc).ty.Contents (Elt F)) {r : Rect S2x256x1024} {w : FVec F r.shape .f32} {hl : (oM : Memref sig .tc .vmem _ _).view.LoadsAt r.toLoadRect}
    {hx : ((oM : Memref sig .tc .vmem _ _).access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    ((c : Thread nD τ).loc cc0_stg8_0 ↦{fullShare} f : sProp 𝕄)
      ⊢ iprop((((c : Thread nD τ).loc cc0_stg8_0 ↦{fullShare} ((oM.access r : View sig .tc _ _ _).write (Elt F) f w Finset.univ))
            -∗ wp frame (wpE (defs₀ (F := F)) 𝒱₀ (c : Thread nD τ) none) Set.univ (k ⟨⟩) Q)
        -∗ wp frame (wpE (defs₀ (F := F)) 𝒱₀ (c : Thread nD τ) none) Set.univ
            (.op (.load oM r.toLoadRect hl) fun _ => .op (.store oM r w Finset.univ hx hm) k) Q) := by
  iintro H Hk
  iapply (wp_load 𝒱₀ (c : Thread nD τ) none Set.univ (m := oM) (Finset.subset_univ _)) $$ H; iintro H
  iapply (wp_store 𝒱₀ (c : Thread nD τ) none Set.univ (m := oM) (r := r) (Mk := Finset.univ) (Finset.subset_univ _)) $$ H; iintro H
  iapply Hk
  iexact H

variable {p q : ℕ} (M : Memref sig .tc .vmem ⟨3, ![4, p, q]⟩ .bf16) (sq : (⟨3, ![1, p, q]⟩ : Shape).Squeezes ⟨2, ![p, q]⟩)
  (v : Dev nD → Vec F ⟨3, ![1, p, q]⟩ .bf16) (t : Fin 3)
  (hat : ∀ (d : Dev nD) (n : ℕ) (hn : n < 4) (s : PosShare TreeShare), slotPts M sq d n hn s (full m M v d) = slotAt m ρ t d n hn s)

theorem slot_sub {n : ℕ} (hn : n < 4) : M.view.setOn (slotR p q n hn).toLoadRect.set ⊆ (slot M n hn sq).view.set := by
  rw [slot_set, View.set_slice]; exact subset_rfl

include hat in
/-- A load of a slot that holds what it ends up with. -/
theorem step_loadSlot {n : ℕ} (hn : n < 4) (s : PosShare TreeShare) {hl : M.view.LoadsAt (slotR p q n hn).toLoadRect}
    {α : Type} {Q : α → sProp 𝕄} {k : Vec F ⟨3, ![1, p, q]⟩ .bf16 → Prog (TpuEff nD τ sig (Elt F) Λ₀ .tc) α} :
    slotAt m ρ t c n hn s
      ⊢ iprop((slotAt m ρ t c n hn s -∗ wp frame (wpE (defs₀ (F := F)) 𝒱₀ (c : Thread nD τ) none) Set.univ (k (v (pr (4 - n) c))) Q)
        -∗ wp frame (wpE (defs₀ (F := F)) 𝒱₀ (c : Thread nD τ) none) Set.univ (.op (.load M (slotR p q n hn).toLoadRect hl) k) Q) := by
  rw [← hat c n hn s, ← read_full m M v c hn]
  exact wp_load 𝒱₀ (c : Thread nD τ) none Set.univ (slot_sub M sq hn)

include hat in
/-- The block stored into slot 0 (the load before it is of no account). -/
theorem step_init (f : Buf (Elt F) (M.view.loc (c : Thread nD τ))) {hl : M.view.LoadsAt (slotR p q 0 l0).toLoadRect}
    {hx : (M.access (slotR p q 0 l0)).Stores Finset.univ} {hm : (Finset.univ : Finset (slotR p q 0 l0).shape.Idx) = Finset.univ ∨ ∀ a, (slotR p q 0 l0).stride a = 1}
    {α : Type} {Q : α → sProp 𝕄} {k : PUnit → Prog (TpuEff nD τ sig (Elt F) Λ₀ .tc) α} :
    slotPts M sq c 0 l0 fullShare f
      ⊢ iprop((slotAt m ρ t c 0 l0 fullShare -∗ wp frame (wpE (defs₀ (F := F)) 𝒱₀ (c : Thread nD τ) none) Set.univ (k ⟨⟩) Q)
        -∗ wp frame (wpE (defs₀ (F := F)) 𝒱₀ (c : Thread nD τ) none) Set.univ
            (.op (.load M (slotR p q 0 l0).toLoadRect hl) fun _ => .op (.store M (slotR p q 0 l0) (v c) Finset.univ hx hm) k) Q) := by
  iintro H Hk
  unfold slotPts
  iapply (wp_load 𝒱₀ (c : Thread nD τ) none Set.univ (m := M) (slot_sub M sq l0)) $$ H; iintro H
  iapply (wp_store 𝒱₀ (c : Thread nD τ) none Set.univ (m := M) (r := slotR p q 0 l0) (Mk := Finset.univ) (by rw [slot_set]; exact subset_rfl)) $$ H; iintro H
  iapply Hk
  ihave H := (Entails.of_eq ((pointsTo_congr (store_full m M sq v c f)).trans (hat c 0 l0 fullShare))) $$ H
  iexact H

/-- Slot 0 at the three shares the copies read through. -/
theorem slot0_split (t : Fin 3) : slotAt m ρ t c 0 l0 fullShare
    ⊣⊢ iprop(slotAt m ρ t c 0 l0 (shareOf 0) ∗ slotAt m ρ t c 0 l0 (shareOf 1) ∗ slotAt m ρ t c 0 l0 (shareOf 2)) := by
  have hs : ∀ (s : PosShare TreeShare), slotAt m ρ t c 0 l0 s ⊣⊢ iprop(slotAt m ρ t c 0 l0 s.left ∗ slotAt m ρ t c 0 l0 s.right) := by
    intro s
    match t with
    | 0 => exact pointsTo_share (PosShare.mem_left_op_right s)
    | 1 => exact pointsTo_share (PosShare.mem_left_op_right s)
    | 2 => exact pointsTo_share (PosShare.mem_left_op_right s)
  refine (hs fullShare).trans ?_
  exact sep_congr_right (hs _)

end Mem

omit [FloatOps F] [Named F] in
theorem splitC (c : Dev nD) (f : Buf (Elt F) ((c : Thread nD τ).loc cc0_scratch0)) :
    ((c : Thread nD τ).loc cc0_scratch0 ↦{fullShare} f : sProp 𝕄)
      ⊣⊢ iprop(cPts c 0 l0 fullShare f ∗ cPts c 1 l1 fullShare f ∗ cPts c 2 l2 fullShare f ∗ cPts c 3 l3 fullShare f) := by
  have h := slots_split (F := F) (Ix := Unit) (Name := ℕ) (U := UU) (Lvl := ℕ) cM squeezes_S1x512x64_S512x64 c fullShare f
  have hs : (cM).view.set = Finset.univ := View.set_whole _
  rw [hs] at h
  exact h
omit [FloatOps F] [Named F] in
theorem splitK (c : Dev nD) (f : Buf (Elt F) ((c : Thread nD τ).loc cc0_scratch1)) :
    ((c : Thread nD τ).loc cc0_scratch1 ↦{fullShare} f : sProp 𝕄)
      ⊣⊢ iprop(kPts c 0 l0 fullShare f ∗ kPts c 1 l1 fullShare f ∗ kPts c 2 l2 fullShare f ∗ kPts c 3 l3 fullShare f) := by
  have h := slots_split (F := F) (Ix := Unit) (Name := ℕ) (U := UU) (Lvl := ℕ) kM squeezes_S1x64x1024_S64x1024 c fullShare f
  have hs : (kM).view.set = Finset.univ := View.set_whole _
  rw [hs] at h
  exact h
omit [FloatOps F] [Named F] in
theorem splitV (c : Dev nD) (f : Buf (Elt F) ((c : Thread nD τ).loc cc0_scratch2)) :
    ((c : Thread nD τ).loc cc0_scratch2 ↦{fullShare} f : sProp 𝕄)
      ⊣⊢ iprop(vPts c 0 l0 fullShare f ∗ vPts c 1 l1 fullShare f ∗ vPts c 2 l2 fullShare f ∗ vPts c 3 l3 fullShare f) := by
  have h := slots_split (F := F) (Ix := Unit) (Name := ℕ) (U := UU) (Lvl := ℕ) vM squeezes_S1x64x1024_S64x1024 c fullShare f
  have hs : (vM).view.set = Finset.univ := View.set_whole _
  rw [hs] at h
  exact h

/-! ## What a device starts with and leaves -/

/-- One assertion for each of the nine copies, grouped by the place of the peer. -/
def nine (J : Fin 3 → Fin 3 → sProp 𝕄) : sProp 𝕄 :=
  iprop((J 0 0 ∗ J 0 1 ∗ J 0 2) ∗ (J 1 0 ∗ J 1 1 ∗ J 1 2) ∗ (J 2 0 ∗ J 2 1 ∗ J 2 2))

/-- The barrier duties a device pays and its own barrier cell's position. -/
def barGhost (c : Dev nD) : sProp 𝕄 :=
  iprop(atPos ER (kcell (c, none)) 0 ∅ 0 ∗ dutyTok ER (kcell (pr 1 c, none)) 0 (2 : Fin 3)
    ∗ dutyTok ER (kcell (pr 2 c, none)) 0 (1 : Fin 3) ∗ dutyTok ER (kcell (pr 3 c, none)) 0 (0 : Fin 3))

/-- The three exchange buffers at whatever they hold. -/
def scratchAny (c : Dev nD) : sProp 𝕄 :=
  iprop((∃ f : Buf (Elt F) ((c : Thread nD τ).loc cc0_scratch0), ((c : Thread nD τ).loc cc0_scratch0 ↦{fullShare} f))
    ∗ (∃ f : Buf (Elt F) ((c : Thread nD τ).loc cc0_scratch1), ((c : Thread nD τ).loc cc0_scratch1 ↦{fullShare} f))
    ∗ (∃ f : Buf (Elt F) ((c : Thread nD τ).loc cc0_scratch2), ((c : Thread nD τ).loc cc0_scratch2 ↦{fullShare} f)))

/-- The four slots of each buffer, back together. -/
theorem join_slots (c : Dev nD) :
    iprop((slotAt m ρ 0 c 0 l0 fullShare ∗ slotAt m ρ 0 c 1 l1 fullShare ∗ slotAt m ρ 0 c 2 l2 fullShare ∗ slotAt m ρ 0 c 3 l3 fullShare)
        ∗ (slotAt m ρ 1 c 0 l0 fullShare ∗ slotAt m ρ 1 c 1 l1 fullShare ∗ slotAt m ρ 1 c 2 l2 fullShare ∗ slotAt m ρ 1 c 3 l3 fullShare)
        ∗ (slotAt m ρ 2 c 0 l0 fullShare ∗ slotAt m ρ 2 c 1 l1 fullShare ∗ slotAt m ρ 2 c 2 l2 fullShare ∗ slotAt m ρ 2 c 3 l3 fullShare))
      ⊢ scratchAny c :=
  Idealize.SL.BI.BIClass.sep_mono ((splitC c (fC m ρ c)).2.trans (exists_intro (Φ := fun f : Buf (Elt F) ((c : Thread nD τ).loc cc0_scratch0) => iprop((c : Thread nD τ).loc cc0_scratch0 ↦{fullShare} f)) (fC m ρ c)))
    (Idealize.SL.BI.BIClass.sep_mono ((splitK c (fK m ρ c)).2.trans (exists_intro (Φ := fun f : Buf (Elt F) ((c : Thread nD τ).loc cc0_scratch1) => iprop((c : Thread nD τ).loc cc0_scratch1 ↦{fullShare} f)) (fK m ρ c)))
      ((splitV c (fV m ρ c)).2.trans (exists_intro (Φ := fun f : Buf (Elt F) ((c : Thread nD τ).loc cc0_scratch2) => iprop((c : Thread nD τ).loc cc0_scratch2 ↦{fullShare} f)) (fV m ρ c))))

/-- The protocol's start: the records, the tokens and positions, the barrier's credit, the levels. -/
def start (c : Dev nD) : sProp 𝕄 :=
  iprop(∃ K : Dev nD × Kd → ℕ, records m ρ K ∗ barGhost c ∗ nine (job0 c) ∗ cred (tallyAt (kcell (c, none)) () 3) ∗ levAts L lv)
def Φ₀ (c : Dev nD) : sProp 𝕄 := iprop(start m ρ c ∗ scratchAny c)
/-- After the body: the buffers at something, the eighteen own cells and the barrier cell closed at zero. -/
def Φ₁ (c : Dev nD) : sProp 𝕄 := iprop(scratchAny c ∗ nine (job3 c) ∗ semVal (kcell (c, none)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => a0 m ρ c
    | ⟨1, _⟩ => a1 m ρ c
    | ⟨2, _⟩ => a2 m ρ c
    | ⟨3, _⟩ => a3 m ρ c
    | ⟨4, _⟩ => a4 m ρ c
    | ⟨5, _⟩ => a5 m ρ c
    | ⟨6, _⟩ => a6 m ρ c
    | ⟨7, _⟩ => a7 m ρ c
    | ⟨8, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

abbrev stgs (c : Dev nD) (Y : sProp 𝕄) : sProp 𝕄 :=
  iprop(stg c cc0_stg0_0 (a0 m ρ c) ∗ stg c cc0_stg1_0 (a1 m ρ c) ∗ stg c cc0_stg2_0 (a2 m ρ c) ∗ stg c cc0_stg3_0 (a3 m ρ c) ∗ stg c cc0_stg4_0 (a4 m ρ c) ∗ stg c cc0_stg5_0 (a5 m ρ c) ∗ stg c cc0_stg6_0 (a6 m ρ c) ∗ stg c cc0_stg7_0 (a7 m ρ c) ∗ Y)

def bodyPre (c : Dev nD) : sProp 𝕄 :=
  iprop(Φ₀ m ρ c ∗ (dats m ρ 0 c).owesAt () t0_0.castSucc ∗ stgs m ρ c iprop(∃ X, stg c cc0_stg8_0 X))
def bodyPost (c : Dev nD) : sProp 𝕄 :=
  iprop(Φ₁ c ∗ (dats m ρ 0 c).owesAt () t0_0.succ ∗ stgs m ρ c (stg c cc0_stg8_0 (outAt m ρ c)))

omit [FloatOps F] [Named F] in
theorem hz2 : (![0, 0] : Fin 2 → ℕ) = fun _ => 0 := funext fun a => by fin_cases a <;> rfl
omit [FloatOps F] [Named F] in
theorem hz3 : (![0, 0, 0] : Fin 3 → ℕ) = fun _ => 0 := funext fun a => by fin_cases a <;> rfl
omit [FloatOps F] [Named F] in
theorem pr_of {c : Dev nD} {d n : ℕ} {h : d < nD} (hd : d = 16 * (c.val / 16) + 4 * (((c.val / 4) % 4 + n) % 4) + c.val % 4) : (⟨d, h⟩ : Dev nD) = pr n c := Fin.ext hd

end Cert.KernelIdeal.Proto
-- ==== Proof.KernelIdeal.Body.lean ====
/-
# The kernel body, run once at a symbolic device

The body is executed rule by rule from what a device starts with to what it leaves: the two rows of the output staging
buffer at `rows` of the gathered blocks, every semaphore cell closed at zero. It is parametric in the float instance.
-/
module

public import proofs.«01_k».proof.Proof.KernelIdeal.Mem
public import proofs.«01_k».proof.Proof.Gen.KernelIdeal.Points
public import Idealize.ShloMosaic.Lib.ViewIndex
public import proofs.«01_k».proof.Proof.Gen.KernelIdeal.Skeleton
public import proofs.«01_k».proof.Proof.Gen.KernelIdeal.Launch

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

set_option maxRecDepth 100000 in
set_option maxHeartbeats 4000000 in
/-- The body, from `bodyPre` to `bodyPost`, one rule per effect in program order. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4) Kt := by
  simp only [cc0_body_eq_skeleton]; unfold cc0_body_skel
  simp only [k0_part28_eq_skeleton]; unfold k0_part28_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [semSignalWord, semWaitWord, Prog.lift, Prog.bind_op, Prog.bind_ret, Prog.pure_eq_ret, wp_deviceId]
  unfold bodyPre Φ₀ start barGhost nine scratchAny
  iintro ⟨⟨⟨⟨%K, #HR, ⟨HatB, Ht1, Ht2, Ht3⟩, ⟨⟨HJ00, HJ01, HJ02⟩, ⟨HJ10, HJ11, HJ12⟩, ⟨HJ20, HJ21, HJ22⟩⟩, HcB, #Hlev⟩, ⟨⟨%fc, HC⟩, ⟨%fk, HK⟩, ⟨%fv, HV⟩⟩⟩, Ho,
    ⟨%g0, %hg0, Hx0⟩, ⟨%g1, %hg1, Hx1⟩, ⟨%g2, %hg2, Hx2⟩, ⟨%g3, %hg3, Hx3⟩, ⟨%g4, %hg4, Hx4⟩, ⟨%g5, %hg5, Hx5⟩, ⟨%g6, %hg6, Hx6⟩, ⟨%g7, %hg7, Hx7⟩, ⟨%X, %g8, %hg8, Hout⟩⟩, Hk⟩
  subst hg0 hg1 hg2 hg3 hg4 hg5 hg6 hg7
  unfold Dat.owesAt Pipeline.owesWithin
  icases Ho with ⟨%W, %hW, Ho⟩
  rw [show (dats m ρ 0 c).owed t0_0.castSucc = dues (owed₀ c) from rfl]
  unfold owed₀
  ihave HS := (splitC c fc).1 $$ HC
  icases HS with ⟨HC0, HC1, HC2, HC3⟩
  ihave HS := (splitK c fk).1 $$ HK
  icases HS with ⟨HK0, HK1, HK2, HK3⟩
  ihave HS := (splitV c fv).1 $$ HV
  icases HS with ⟨HV0, HV1, HV2, HV3⟩
  -- the three signals: each hands the peer the slots its copies go to
  ihave HS : slotsAny c 3 l3 $$ [HC3 HK3 HV3]
  · unfold slotsAny
    isplitl [HC3]; · iexists fc; iexact HC3
    isplitl [HK3]; · iexists fk; iexact HK3
    iexists fv; iexact HV3
  iapply (step_signal m ρ K c (n := 1) (pr_of (k0_dev1_eq c)) 2 l3 rfl rfl _ W) $$ HR Ht1 HS Ho
  iintro Ho
  ihave HS : slotsAny c 2 l2 $$ [HC2 HK2 HV2]
  · unfold slotsAny
    isplitl [HC2]; · iexists fc; iexact HC2
    isplitl [HK2]; · iexists fk; iexact HK2
    iexists fv; iexact HV2
  iapply (step_signal m ρ K c (n := 2) (pr_of (k0_dev2_eq c)) 1 l2 rfl rfl _ W) $$ HR Ht2 HS Ho
  iintro Ho
  ihave HS : slotsAny c 1 l1 $$ [HC1 HK1 HV1]
  · unfold slotsAny
    isplitl [HC1]; · iexists fc; iexact HC1
    isplitl [HK1]; · iexists fk; iexact HK1
    iexists fv; iexact HV1
  iapply (step_signal m ρ K c (n := 3) (pr_of (k0_dev3_eq c)) 0 l1 rfl rfl _ W) $$ HR Ht3 HS Ho
  iintro Ho
  -- the barrier: the peers' slots
  iapply (step_barrier m ρ K c W) $$ HR Hlev HatB HcB Ho
  unfold slotsAny
  iintro ⟨⟨⟨%dC1, HDC1⟩, ⟨%dK1, HDK1⟩, ⟨%dV1, HDV1⟩⟩, ⟨⟨%dC2, HDC2⟩, ⟨%dK2, HDK2⟩, ⟨%dV2, HDV2⟩⟩, ⟨⟨%dC3, HDC3⟩, ⟨%dK3, HDK3⟩, ⟨%dV3, HDV3⟩⟩, HzB, Ho⟩
  -- the own blocks into slot 0
  iapply (step_load c (Memref.whole cc0_stg0_0) (a0 m ρ c) (Memref.readAt_unit_zero (Elt F) cc0_stg0_0 hz3 _ _)) $$ Hx0; iintro Hx0
  iapply (step_load c (Memref.whole cc0_stg1_0) (a1 m ρ c) (Memref.readAt_unit_zero (Elt F) cc0_stg1_0 hz2 _ _)) $$ Hx1; iintro Hx1
  iapply (step_init m ρ c cM squeezes_S1x512x64_S512x64 (vC m ρ) 0 (fun _ _ _ _ => rfl) fc) $$ HC0; iintro HC0
  iapply (step_load c (Memref.whole cc0_stg2_0) (a2 m ρ c) (Memref.readAt_unit_zero (Elt F) cc0_stg2_0 hz2 _ _)) $$ Hx2; iintro Hx2
  iapply (step_init m ρ c kM squeezes_S1x64x1024_S64x1024 (vK m ρ) 1 (fun _ _ _ _ => rfl) fk) $$ HK0; iintro HK0
  iapply (step_load c (Memref.whole cc0_stg3_0) (a3 m ρ c) (Memref.readAt_unit_zero (Elt F) cc0_stg3_0 hz2 _ _)) $$ Hx3; iintro Hx3
  iapply (step_init m ρ c vM squeezes_S1x64x1024_S64x1024 (vV m ρ) 2 (fun _ _ _ _ => rfl) fv) $$ HV0; iintro HV0
  ihave HS := (slot0_split m ρ c 0).1 $$ HC0
  icases HS with ⟨HCs0, HCs1, HCs2⟩
  ihave HS := (slot0_split m ρ c 1).1 $$ HK0
  icases HS with ⟨HKs0, HKs1, HKs2⟩
  ihave HS := (slot0_split m ρ c 2).1 $$ HV0
  icases HS with ⟨HVs0, HVs1, HVs2⟩
  -- the nine copies
  unfold owedR
  iapply (step_copy m ρ K c cM squeezes_S1x512x64_S512x64 (vC m ρ) 0 0 (fun _ _ _ _ => rfl) rfl l1 rfl (pr_of (k0_dev4_eq c)) dC1 _ _) $$ HR HJ00 HCs0 HDC1 Ho; iintro ⟨HJ00, Ho⟩
  iapply (step_copy m ρ K c kM squeezes_S1x64x1024_S64x1024 (vK m ρ) 0 1 (fun _ _ _ _ => rfl) rfl l1 rfl (pr_of (k0_dev5_eq c)) dK1 _ _) $$ HR HJ01 HKs0 HDK1 Ho; iintro ⟨HJ01, Ho⟩
  iapply (step_copy m ρ K c vM squeezes_S1x64x1024_S64x1024 (vV m ρ) 0 2 (fun _ _ _ _ => rfl) rfl l1 rfl (pr_of (k0_dev6_eq c)) dV1 _ _) $$ HR HJ02 HVs0 HDV1 Ho; iintro ⟨HJ02, Ho⟩
  iapply (step_copy m ρ K c cM squeezes_S1x512x64_S512x64 (vC m ρ) 1 0 (fun _ _ _ _ => rfl) rfl l2 rfl (pr_of (k0_dev7_eq c)) dC2 _ _) $$ HR HJ10 HCs1 HDC2 Ho; iintro ⟨HJ10, Ho⟩
  iapply (step_copy m ρ K c kM squeezes_S1x64x1024_S64x1024 (vK m ρ) 1 1 (fun _ _ _ _ => rfl) rfl l2 rfl (pr_of (k0_dev8_eq c)) dK2 _ _) $$ HR HJ11 HKs1 HDK2 Ho; iintro ⟨HJ11, Ho⟩
  iapply (step_copy m ρ K c vM squeezes_S1x64x1024_S64x1024 (vV m ρ) 1 2 (fun _ _ _ _ => rfl) rfl l2 rfl (pr_of (k0_dev9_eq c)) dV2 _ _) $$ HR HJ12 HVs1 HDV2 Ho; iintro ⟨HJ12, Ho⟩
  iapply (step_copy m ρ K c cM squeezes_S1x512x64_S512x64 (vC m ρ) 2 0 (fun _ _ _ _ => rfl) rfl l3 rfl (pr_of (k0_dev10_eq c)) dC3 _ _) $$ HR HJ20 HCs2 HDC3 Ho; iintro ⟨HJ20, Ho⟩
  iapply (step_copy m ρ K c kM squeezes_S1x64x1024_S64x1024 (vK m ρ) 2 1 (fun _ _ _ _ => rfl) rfl l3 rfl (pr_of (k0_dev11_eq c)) dK3 _ _) $$ HR HJ21 HKs2 HDK3 Ho; iintro ⟨HJ21, Ho⟩
  iapply (step_copy m ρ K c vM squeezes_S1x64x1024_S64x1024 (vV m ρ) 2 2 (fun _ _ _ _ => rfl) rfl l3 rfl (pr_of (k0_dev12_eq c)) dV3 _ _) $$ HR HJ22 HVs2 HDV3 Ho; iintro ⟨HJ22, Ho⟩
  ihave Hp : paid c $$ [Ho]
  · unfold paid; iexists _; iexact Ho
  iapply (step_load c (Memref.whole cc0_stg4_0) (a4 m ρ c) (Memref.readAt_unit_zero (Elt F) cc0_stg4_0 hz2 _ _)) $$ Hx4; iintro Hx4
  iapply (step_load c (Memref.whole cc0_stg5_0) (a5 m ρ c) (Memref.readAt_unit_zero (Elt F) cc0_stg5_0 hz2 _ _)) $$ Hx5; iintro Hx5
  iapply (step_load c (Memref.whole cc0_stg6_0) (a6 m ρ c) (Memref.readAt_unit_zero (Elt F) cc0_stg6_0 hz2 _ _)) $$ Hx6; iintro Hx6
  -- the eighteen waits
  iapply (step_waitS m ρ K c 0 0 (src := slot cM 1 l1 squeezes_S1x512x64_S512x64) (dst := slot cM 0 l0 squeezes_S1x512x64_S512x64) rfl) $$ HR HJ00 Hp; iintro ⟨HJ00, HCs0, Hp⟩
  iapply (step_waitR m ρ K c 0 0 l1 rfl (src := slot cM 0 l0 squeezes_S1x512x64_S512x64) (dst := slot cM 1 l1 squeezes_S1x512x64_S512x64) rfl) $$ HR HJ00 Hp; iintro ⟨HJ00, HC1, Hp⟩
  iapply (step_waitS m ρ K c 0 1 (src := slot kM 1 l1 squeezes_S1x64x1024_S64x1024) (dst := slot kM 0 l0 squeezes_S1x64x1024_S64x1024) rfl) $$ HR HJ01 Hp; iintro ⟨HJ01, HKs0, Hp⟩
  iapply (step_waitR m ρ K c 0 1 l1 rfl (src := slot kM 0 l0 squeezes_S1x64x1024_S64x1024) (dst := slot kM 1 l1 squeezes_S1x64x1024_S64x1024) rfl) $$ HR HJ01 Hp; iintro ⟨HJ01, HK1, Hp⟩
  iapply (step_waitS m ρ K c 0 2 (src := slot vM 1 l1 squeezes_S1x64x1024_S64x1024) (dst := slot vM 0 l0 squeezes_S1x64x1024_S64x1024) rfl) $$ HR HJ02 Hp; iintro ⟨HJ02, HVs0, Hp⟩
  iapply (step_waitR m ρ K c 0 2 l1 rfl (src := slot vM 0 l0 squeezes_S1x64x1024_S64x1024) (dst := slot vM 1 l1 squeezes_S1x64x1024_S64x1024) rfl) $$ HR HJ02 Hp; iintro ⟨HJ02, HV1, Hp⟩
  iapply (step_waitS m ρ K c 1 0 (src := slot cM 2 l2 squeezes_S1x512x64_S512x64) (dst := slot cM 0 l0 squeezes_S1x512x64_S512x64) rfl) $$ HR HJ10 Hp; iintro ⟨HJ10, HCs1, Hp⟩
  iapply (step_waitR m ρ K c 1 0 l2 rfl (src := slot cM 0 l0 squeezes_S1x512x64_S512x64) (dst := slot cM 2 l2 squeezes_S1x512x64_S512x64) rfl) $$ HR HJ10 Hp; iintro ⟨HJ10, HC2, Hp⟩
  iapply (step_waitS m ρ K c 1 1 (src := slot kM 2 l2 squeezes_S1x64x1024_S64x1024) (dst := slot kM 0 l0 squeezes_S1x64x1024_S64x1024) rfl) $$ HR HJ11 Hp; iintro ⟨HJ11, HKs1, Hp⟩
  iapply (step_waitR m ρ K c 1 1 l2 rfl (src := slot kM 0 l0 squeezes_S1x64x1024_S64x1024) (dst := slot kM 2 l2 squeezes_S1x64x1024_S64x1024) rfl) $$ HR HJ11 Hp; iintro ⟨HJ11, HK2, Hp⟩
  iapply (step_waitS m ρ K c 1 2 (src := slot vM 2 l2 squeezes_S1x64x1024_S64x1024) (dst := slot vM 0 l0 squeezes_S1x64x1024_S64x1024) rfl) $$ HR HJ12 Hp; iintro ⟨HJ12, HVs1, Hp⟩
  iapply (step_waitR m ρ K c 1 2 l2 rfl (src := slot vM 0 l0 squeezes_S1x64x1024_S64x1024) (dst := slot vM 2 l2 squeezes_S1x64x1024_S64x1024) rfl) $$ HR HJ12 Hp; iintro ⟨HJ12, HV2, Hp⟩
  iapply (step_waitS m ρ K c 2 0 (src := slot cM 3 l3 squeezes_S1x512x64_S512x64) (dst := slot cM 0 l0 squeezes_S1x512x64_S512x64) rfl) $$ HR HJ20 Hp; iintro ⟨HJ20, HCs2, Hp⟩
  iapply (step_waitR m ρ K c 2 0 l3 rfl (src := slot cM 0 l0 squeezes_S1x512x64_S512x64) (dst := slot cM 3 l3 squeezes_S1x512x64_S512x64) rfl) $$ HR HJ20 Hp; iintro ⟨HJ20, HC3, Hp⟩
  iapply (step_waitS m ρ K c 2 1 (src := slot kM 3 l3 squeezes_S1x64x1024_S64x1024) (dst := slot kM 0 l0 squeezes_S1x64x1024_S64x1024) rfl) $$ HR HJ21 Hp; iintro ⟨HJ21, HKs2, Hp⟩
  iapply (step_waitR m ρ K c 2 1 l3 rfl (src := slot kM 0 l0 squeezes_S1x64x1024_S64x1024) (dst := slot kM 3 l3 squeezes_S1x64x1024_S64x1024) rfl) $$ HR HJ21 Hp; iintro ⟨HJ21, HK3, Hp⟩
  iapply (step_waitS m ρ K c 2 2 (src := slot vM 3 l3 squeezes_S1x64x1024_S64x1024) (dst := slot vM 0 l0 squeezes_S1x64x1024_S64x1024) rfl) $$ HR HJ22 Hp; iintro ⟨HJ22, HVs2, Hp⟩
  iapply (step_waitR m ρ K c 2 2 l3 rfl (src := slot vM 0 l0 squeezes_S1x64x1024_S64x1024) (dst := slot vM 3 l3 squeezes_S1x64x1024_S64x1024) rfl) $$ HR HJ22 Hp; iintro ⟨HJ22, HV3, Hp⟩
  ihave HC0 := (slot0_split m ρ c 0).2 $$ [HCs0 HCs1 HCs2]
  · isplitl [HCs0]; · iexact HCs0
    isplitl [HCs1]; · iexact HCs1
    iexact HCs2
  ihave HK0 := (slot0_split m ρ c 1).2 $$ [HKs0 HKs1 HKs2]
  · isplitl [HKs0]; · iexact HKs0
    isplitl [HKs1]; · iexact HKs1
    iexact HKs2
  ihave HV0 := (slot0_split m ρ c 2).2 $$ [HVs0 HVs1 HVs2]
  · isplitl [HVs0]; · iexact HVs0
    isplitl [HVs1]; · iexact HVs1
    iexact HVs2
  -- the gathered slots
  iapply (step_loadSlot m ρ c cM squeezes_S1x512x64_S512x64 (vC m ρ) 0 (fun _ _ _ _ => rfl) l0 fullShare) $$ HC0; iintro HC0
  iapply (step_loadSlot m ρ c cM squeezes_S1x512x64_S512x64 (vC m ρ) 0 (fun _ _ _ _ => rfl) l1 fullShare) $$ HC1; iintro HC1
  iapply (step_loadSlot m ρ c cM squeezes_S1x512x64_S512x64 (vC m ρ) 0 (fun _ _ _ _ => rfl) l2 fullShare) $$ HC2; iintro HC2
  iapply (step_loadSlot m ρ c cM squeezes_S1x512x64_S512x64 (vC m ρ) 0 (fun _ _ _ _ => rfl) l3 fullShare) $$ HC3; iintro HC3
  iapply (step_loadSlot m ρ c kM squeezes_S1x64x1024_S64x1024 (vK m ρ) 1 (fun _ _ _ _ => rfl) l0 fullShare) $$ HK0; iintro HK0
  iapply (step_loadSlot m ρ c kM squeezes_S1x64x1024_S64x1024 (vK m ρ) 1 (fun _ _ _ _ => rfl) l1 fullShare) $$ HK1; iintro HK1
  iapply (step_loadSlot m ρ c kM squeezes_S1x64x1024_S64x1024 (vK m ρ) 1 (fun _ _ _ _ => rfl) l2 fullShare) $$ HK2; iintro HK2
  iapply (step_loadSlot m ρ c kM squeezes_S1x64x1024_S64x1024 (vK m ρ) 1 (fun _ _ _ _ => rfl) l3 fullShare) $$ HK3; iintro HK3
  iapply (step_loadSlot m ρ c vM squeezes_S1x64x1024_S64x1024 (vV m ρ) 2 (fun _ _ _ _ => rfl) l0 fullShare) $$ HV0; iintro HV0
  iapply (step_loadSlot m ρ c vM squeezes_S1x64x1024_S64x1024 (vV m ρ) 2 (fun _ _ _ _ => rfl) l1 fullShare) $$ HV1; iintro HV1
  iapply (step_loadSlot m ρ c vM squeezes_S1x64x1024_S64x1024 (vV m ρ) 2 (fun _ _ _ _ => rfl) l2 fullShare) $$ HV2; iintro HV2
  iapply (step_loadSlot m ρ c vM squeezes_S1x64x1024_S64x1024 (vV m ρ) 2 (fun _ _ _ _ => rfl) l3 fullShare) $$ HV3; iintro HV3
  iapply (step_load c (Memref.whole cc0_stg7_0) (a7 m ρ c) (Memref.readAt_unit_zero (Elt F) cc0_stg7_0 hz2 _ _)) $$ Hx7; iintro Hx7
  -- the two rows
  iapply (step_row c _) $$ Hout; iintro Hout
  iapply (step_row c _) $$ Hout; iintro Hout
  rw [write_rows g8 _ _ inb_S2x256x1024_S1x256x1024_0_0_0 inb_S2x256x1024_S1x256x1024_1_0_0, wp_ret]; imodintro
  iapply Hk
  unfold bodyPost Φ₁ nine Dat.owesAt Pipeline.owesWithin
  rw [show (dats m ρ 0 c).owed t0_0.succ = 0 from rfl]
  isplitr [Hp Hx0 Hx1 Hx2 Hx3 Hx4 Hx5 Hx6 Hx7 Hout]
  · isplitr [HzB HJ00 HJ01 HJ02 HJ10 HJ11 HJ12 HJ20 HJ21 HJ22]
    · iapply (join_slots m ρ c)
      isplitl [HC0 HC1 HC2 HC3]
      · isplitl [HC0]; · iexact HC0
        isplitl [HC1]; · iexact HC1
        isplitl [HC2]; · iexact HC2
        iexact HC3
      isplitl [HK0 HK1 HK2 HK3]
      · isplitl [HK0]; · iexact HK0
        isplitl [HK1]; · iexact HK1
        isplitl [HK2]; · iexact HK2
        iexact HK3
      isplitl [HV0]; · iexact HV0
      isplitl [HV1]; · iexact HV1
      isplitl [HV2]; · iexact HV2
      iexact HV3
    isplitr [HzB]
    · isplitl [HJ00 HJ01 HJ02]
      · isplitl [HJ00]; · iexact HJ00
        isplitl [HJ01]; · iexact HJ01
        iexact HJ02
      isplitl [HJ10 HJ11 HJ12]
      · isplitl [HJ10]; · iexact HJ10
        isplitl [HJ11]; · iexact HJ11
        iexact HJ12
      isplitl [HJ20]; · iexact HJ20
      isplitl [HJ21]; · iexact HJ21
      iexact HJ22
    iexact HzB
  isplitl [Hp]
  · unfold paid; icases Hp with ⟨%W', Ho⟩
    iexists W'
    isplitr; · ipureintro; exact fun _ _ => Or.inl trivial
    iexact Ho
  isplitl [Hx0]; · iexists _; isplitr; · (ipureintro; rfl)
                   iexact Hx0
  isplitl [Hx1]; · iexists _; isplitr; · (ipureintro; rfl)
                   iexact Hx1
  isplitl [Hx2]; · iexists _; isplitr; · (ipureintro; rfl)
                   iexact Hx2
  isplitl [Hx3]; · iexists _; isplitr; · (ipureintro; rfl)
                   iexact Hx3
  isplitl [Hx4]; · iexists _; isplitr; · (ipureintro; rfl)
                   iexact Hx4
  isplitl [Hx5]; · iexists _; isplitr; · (ipureintro; rfl)
                   iexact Hx5
  isplitl [Hx6]; · iexists _; isplitr; · (ipureintro; rfl)
                   iexact Hx6
  isplitl [Hx7]; · iexists _; isplitr; · (ipureintro; rfl)
                   iexact Hx7
  iexists _; isplitr; swap; · iexact Hout
  ipureintro; rfl

end Cert.KernelIdeal.Proto
-- ==== Proof.KernelIdeal.Launch.lean ====
/-
# The launch: from the machine's start to the run of the whole program

Every device is dealt the state of its own cells and the tokens of its cells' duties; one global step opens the cells'
invariants and hands each token to the device that pays the duty. The run then leaves every device's output at
`outAt`, every operand as it was and every semaphore at zero.
-/
module

public import proofs.«01_k».proof.Proof.KernelIdeal.Body
public import Idealize.ShloMosaic.Lib.Pipeline.CollectiveSegs
public import proofs.«01_k».proof.Proof.Gen.KernelIdeal.Skeleton
public import proofs.«01_k».proof.Proof.Gen.KernelIdeal.Launch

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body obligation -/

def bodyPre' (c : Dev nD) : sProp 𝕄 :=
  iprop(Φ₀ m ρ c ∗ (dats m ρ 0 c).owesAt () t0_0.castSucc
    ∗ (∃ d, stg c cc0_stg0_0 ((dats m ρ 0 c).before (0 : Fin 9) t0_0 d))
    ∗ (∃ d, stg c cc0_stg1_0 ((dats m ρ 0 c).before (1 : Fin 9) t0_0 d))
    ∗ (∃ d, stg c cc0_stg2_0 ((dats m ρ 0 c).before (2 : Fin 9) t0_0 d))
    ∗ (∃ d, stg c cc0_stg3_0 ((dats m ρ 0 c).before (3 : Fin 9) t0_0 d))
    ∗ (∃ d, stg c cc0_stg4_0 ((dats m ρ 0 c).before (4 : Fin 9) t0_0 d))
    ∗ (∃ d, stg c cc0_stg5_0 ((dats m ρ 0 c).before (5 : Fin 9) t0_0 d))
    ∗ (∃ d, stg c cc0_stg6_0 ((dats m ρ 0 c).before (6 : Fin 9) t0_0 d))
    ∗ (∃ d, stg c cc0_stg7_0 ((dats m ρ 0 c).before (7 : Fin 9) t0_0 d))
    ∗ (∃ d, stg c cc0_stg8_0 ((dats m ρ 0 c).before (8 : Fin 9) t0_0 d)))

set_option maxRecDepth 8000 in
/-- The pipeline's obligation on device `c`: the one point runs the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4) (fun _ => bodyPost m ρ c)
  unfold bodyPre'
  iintro ⟨HΦ, Ho, ⟨%d0, %g0, %hg0, Hx0⟩, ⟨%d1, %g1, %hg1, Hx1⟩, ⟨%d2, %g2, %hg2, Hx2⟩, ⟨%d3, %g3, %hg3, Hx3⟩, ⟨%d4, %g4, %hg4, Hx4⟩, ⟨%d5, %g5, %hg5, Hx5⟩, ⟨%d6, %g6, %hg6, Hx6⟩, ⟨%d7, %g7, %hg7, Hx7⟩, ⟨%d8, %g8, %hg8, Hx8⟩⟩
  have h0 : g0 = a0 m ρ c := by rw [hg0]; unfold Dat.before; rw [if_pos (fetch0_0 t0_0)]; rfl
  have h1 : g1 = a1 m ρ c := by rw [hg1]; unfold Dat.before; rw [if_pos (fetch0_1 t0_0)]; rfl
  have h2 : g2 = a2 m ρ c := by rw [hg2]; unfold Dat.before; rw [if_pos (fetch0_2 t0_0)]; rfl
  have h3 : g3 = a3 m ρ c := by rw [hg3]; unfold Dat.before; rw [if_pos (fetch0_3 t0_0)]; rfl
  have h4 : g4 = a4 m ρ c := by rw [hg4]; unfold Dat.before; rw [if_pos (fetch0_4 t0_0)]; rfl
  have h5 : g5 = a5 m ρ c := by rw [hg5]; unfold Dat.before; rw [if_pos (fetch0_5 t0_0)]; rfl
  have h6 : g6 = a6 m ρ c := by rw [hg6]; unfold Dat.before; rw [if_pos (fetch0_6 t0_0)]; rfl
  have h7 : g7 = a7 m ρ c := by rw [hg7]; unfold Dat.before; rw [if_pos (fetch0_7 t0_0)]; rfl
  iapply (sound_body m ρ c fun _ => bodyPost m ρ c)
  unfold bodyPre
  isplitr []
  · isplitl [HΦ]; · iexact HΦ
    isplitl [Ho]; · iexact Ho
    isplitl [Hx0]; · iexists g0; isplitr; · (ipureintro; exact h0)
                     iexact Hx0
    isplitl [Hx1]; · iexists g1; isplitr; · (ipureintro; exact h1)
                     iexact Hx1
    isplitl [Hx2]; · iexists g2; isplitr; · (ipureintro; exact h2)
                     iexact Hx2
    isplitl [Hx3]; · iexists g3; isplitr; · (ipureintro; exact h3)
                     iexact Hx3
    isplitl [Hx4]; · iexists g4; isplitr; · (ipureintro; exact h4)
                     iexact Hx4
    isplitl [Hx5]; · iexists g5; isplitr; · (ipureintro; exact h5)
                     iexact Hx5
    isplitl [Hx6]; · iexists g6; isplitr; · (ipureintro; exact h6)
                     iexact Hx6
    isplitl [Hx7]; · iexists g7; isplitr; · (ipureintro; exact h7)
                     iexact Hx7
    iexists g8; iexists g8; isplitr; · (ipureintro; rfl)
    iexact Hx8
  · iintro H; iexact H

/-! ## Conjunctions over the kinds of cell -/

omit [FloatOps F] [Named F] in
theorem bigSep_three (Φ : Fin 3 → sProp 𝕄) : bigSep Finset.univ Φ = iprop(Φ 0 ∗ Φ 1 ∗ Φ 2) := bigSep_univ_eq_bigSepL [0, 1, 2] (by decide) (by decide) Φ

omit [FloatOps F] [Named F] in
theorem nine_eq (J : Fin 3 → Fin 3 → sProp 𝕄) : (bigSep Finset.univ fun x : Fin 3 × Fin 3 => J x.1 x.2) = nine J := by
  rw [bigSep_univ_prod, bigSep_three, bigSep_three, bigSep_three, bigSep_three]; rfl

omit [FloatOps F] [Named F] in
/-- The send kinds and the receive kinds. -/
theorem xfer_split (Φ : Bool × Fin 3 × Fin 3 → sProp 𝕄) :
    bigSep Finset.univ Φ = iprop((bigSep Finset.univ fun x : Fin 3 × Fin 3 => Φ (false, x)) ∗ bigSep Finset.univ fun x : Fin 3 × Fin 3 => Φ (true, x)) := by
  rw [bigSep_univ_prod, bigSep_univ_eq_bigSepL [false, true] (by decide) (by decide), bigSepL_cons_cons, bigSepL_singleton]
  rfl

omit [FloatOps F] [Named F] in
theorem kind_split (Φ : Kd → sProp 𝕄) : bigSep Finset.univ Φ = iprop((bigSep Finset.univ fun x => Φ (some x)) ∗ Φ none) := by
  rw [bigSep_univ_equiv (Equiv.optionEquivSumPUnit.{0, 0} (Bool × Fin 3 × Fin 3)).symm Φ, bigSep_univ_sum, bigSep_univ_of_subsingleton PUnit.unit]
  rfl

/-! ## The tokens -/

omit [FloatOps F] [Named F] in
theorem tk_split (Φ : Fin 3 ⊕ (Bool × Fin 3 × Fin 3) → sProp 𝕄) :
    bigSep Finset.univ Φ = iprop((bigSep Finset.univ fun e => Φ (.inl e)) ∗ bigSep Finset.univ fun x => Φ (.inr x)) := by
  rw [bigSep_univ_sum]
  rfl

/-- A device's duties, as its cells hold them: three on the barrier, one on each transfer cell. -/
abbrev Tk : Type := Fin 3 ⊕ (Bool × Fin 3 × Fin 3)
def tkKind : Tk → Kd
  | .inl _ => none
  | .inr x => some x
def tkDuty : Tk → Fin 3
  | .inl e => e
  | .inr _ => 0
theorem tk_inj {j j' : Tk} (h : tkKind j = tkKind j') (h' : tkDuty j = tkDuty j') : j = j' := by
  match j, j' with
  | .inl e, .inl e' => exact congrArg Sum.inl h'
  | .inr x, .inr x' => exact congrArg Sum.inr (Option.some.inj h)
  | .inl _, .inr _ => exact absurd h (fun h => by cases h)
  | .inr _, .inl _ => exact absurd h (fun h => by cases h)

/-- The device whose duty of that name a device pays. -/
def payee : Tk → Dev nD ≃ Dev nD
  | .inl e => prE (3 - e.val) (by omega)
  | .inr (false, _) => Equiv.refl _
  | .inr (true, i, _) => prE (i.val + 1) (by omega)

def tokOf (cj : Dev nD × Tk) : GSem nD τ sig × ℕ × Fin 3 := (kcell (cj.1, tkKind cj.2), 0, tkDuty cj.2)
theorem tokOf_injective : Function.Injective tokOf := by
  rintro ⟨c, j⟩ ⟨c', j'⟩ h
  have h1 := kcell_inj.mp (congrArg Prod.fst h)
  have h2 : tkDuty j = tkDuty j' := congrArg (fun x : GSem nD τ sig × ℕ × Fin 3 => x.2.2) h
  exact Prod.ext (congrArg (fun x : Dev nD × Kd => x.1) h1) (tk_inj (congrArg (fun x : Dev nD × Kd => x.2) h1) h2)

def allCells : Finset (GSem nD τ sig) := Finset.univ.map ⟨kcell, fun _ _ h => kcell_inj.mp h⟩
def allToks : Finset (GSem nD τ sig × ℕ × Fin 3) := Finset.univ.map ⟨tokOf, tokOf_injective⟩

/-- The launch element: the pipeline's part and the protocol's. -/
def u₀ : UU := (initOf (Pipeline.cells cfgs cellOf_inj) (Pipeline.launchToks cfgs cellOf_inj), initOf allCells allToks)

/-- The duty tokens of device `c`'s own cells. -/
def toks (c : Dev nD) : sProp 𝕄 := bigSep Finset.univ fun j : Tk => dutyTok ER (kcell (c, tkKind j)) 0 (tkDuty j)
/-- The tokens of the duties device `c` pays. -/
def payToks (c : Dev nD) : sProp 𝕄 := bigSep Finset.univ fun j : Tk => dutyTok ER (kcell (payee j c, tkKind j)) 0 (tkDuty j)

/-- What the launch element deals device `c`. -/
def G (c : Dev nD) : sProp 𝕄 :=
  iprop((bigSep Finset.univ fun k : Kd => roundState ER (Rd m ρ) (kcell (c, k)) 0)
    ∗ (bigSep Finset.univ fun k : Kd => iprop(atPos ER (kcell (c, k)) 0 ∅ 0 ∗ reached ER (kcell (c, k)) 0)) ∗ toks c)

/-- What stays with device `c`: its positions, the tokens it pays with. -/
def linear (c : Dev nD) : sProp 𝕄 := iprop((bigSep Finset.univ fun k : Kd => atPos ER (kcell (c, k)) 0 ∅ 0) ∗ payToks c)

/-- What the global step makes of it. -/
def G' (c : Dev nD) : sProp 𝕄 := iprop(∃ K : Dev nD × Kd → ℕ, records m ρ K ∗ linear c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells' invariants, opened on every device at once -/

/-- The kernel's own semaphores: the eighteen transfer semaphores. -/
abbrev osem (x : Bool × Fin 3 × Fin 3) : SemLoc sig := csem (some x)
theorem ownSemFacts : Pipeline.OwnSemFacts cfg0.spec osem := by decide +kernel

omit [FloatOps F] [Named F] in
/-- The barrier semaphore is the launch's one semaphore besides them. -/
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Kd => semVal (kcell (c, k)) 0 : sProp 𝕄) := by
  rw [unscopedSems0_eq, kind_split]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Kd => semVal (kcell (c, k)) 0) ∗ bigSep Finset.univ fun k : Kd => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] [Named F] in
/-- Every token goes to the device that pays its duty. -/
theorem toks_around : (bigSep Finset.univ fun c : Dev nD => (toks c : sProp 𝕄)) = bigSep Finset.univ fun c : Dev nD => payToks c := by
  unfold toks payToks
  rw [Idealize.SL.BI.bigSep_univ_comm, Idealize.SL.BI.bigSep_univ_comm (fun (c : Dev nD) (j : Tk) => (dutyTok ER (kcell (payee j c, tkKind j)) 0 (tkDuty j) : sProp 𝕄))]
  exact bigSep_congr fun j _ => bigSep_univ_equiv (payee j) (fun c : Dev nD => (dutyTok ER (kcell (c, tkKind j)) 0 (tkDuty j) : sProp 𝕄))

omit [FloatOps F] [Named F] in
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Kd => iprop(∃ κ : ℕ, cellInv ER (Rd m ρ) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄)), toks_around]
  iintro ⟨HI, ⟨Hat, HR⟩, Htok⟩
  ihave HK := (BI.bigSep_exists_pi Finset.univ (fun (ck : Dev nD × Kd) (κ : ℕ) => (cellInv ER (Rd m ρ) κ (kcell ck) : sProp 𝕄))) $$ HI
  icases HK with ⟨%K, HI⟩
  ihave HRec : records m ρ K $$ [HI HR]
  · unfold records; rw [bigSep_sep']
    isplitl [HI] <;> iassumption
  iapply (bigSep_under (R := records m ρ K) (Φ := linear) fun c _ => by
    unfold G'; iintro H; iexists K; iexact H)
  isplitl [HRec]; · iexact HRec
  unfold linear; rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem dues_apply (l : List (GSem nD τ sig × ℕ)) (g : GSem nD τ sig) : dues l g () = (l.map fun a => if g = a.1 then a.2 else 0).sum := by
  induction l with
  | nil => rfl
  | cons a l ih =>
    rw [List.map_cons, List.sum_cons, ← ih]
    show (dues l + tallyAt a.1 () a.2) g () = _
    rw [Pi.add_apply, Finsupp.add_apply, tallyAt_apply, Nat.add_comm]
    congr 1
    by_cases h : g = a.1
    · rw [if_pos ⟨h, rfl⟩, if_pos h]
    · rw [if_neg (fun h' => h h'.1), if_neg h]

/-- Over all devices, the units owed to the peer `n` places after are one device's. -/
theorem sum_entry (n : ℕ) (hn : n ≤ 4) (c : Dev nD) (k k' : Kd) (x : ℕ) :
    (∑ d : Dev nD, if kcell (c, k) = kcell (pr n d, k') then x else 0) = if k = k' then x else 0 := by
  by_cases hk : k = k'
  · rw [if_pos hk, Finset.sum_congr rfl fun d _ => if_congr (show kcell (c, k) = kcell (pr n d, k') ↔ d = pr (4 - n) c from by
      rw [kcell_inj, Prod.mk.injEq, ← pr_eq_iff hn]; exact ⟨fun h => h.1.symm, fun h => ⟨h.symm, hk⟩⟩) rfl rfl]
    rw [Finset.sum_ite_eq' Finset.univ (pr (4 - n) c) fun _ => x, if_pos (Finset.mem_univ _)]
  · rw [if_neg hk]
    exact Finset.sum_eq_zero fun d _ => if_neg fun h => hk (congrArg Prod.snd (kcell_inj.mp h))

/-- The credit a device's cell starts with: what its peers owe it. -/
def lc : Kd → ℕ
  | none => 3
  | some (false, _, _) => 0
  | some (true, _, t) => crd t

theorem owed_sum (c : Dev nD) (k : Kd) : (∑ d : Dev nD, O₀ d (kcell (c, k)) ()) = lc k := by
  unfold O₀ owed₀ owedR
  simp only [dues_apply, List.map_cons, List.map_nil, List.sum_cons, List.sum_nil, Finset.sum_add_distrib, Finset.sum_const_zero]
  rw [sum_entry 1 (by decide), sum_entry 2 (by decide), sum_entry 3 (by decide)]
  simp only [sum_entry 1 (by decide), sum_entry 2 (by decide), sum_entry 3 (by decide)]
  match k with
  | none => simp [lc]
  | some (false, i, t) => simp [lc]
  | some (true, i, t) => fin_cases i <;> fin_cases t <;> simp [lc]

theorem launch_cell (c : Dev nD) (k : Kd) :
    tallyOn (kcell (c, k)) (launchCredit (Pipeline.owing O₀) 0 (kcell (c, k))) = (tallyAt (kcell (c, k)) () (lc k) : CellTallies nD τ sig Unit) := by
  unfold tallyAt; refine congrArg _ (Finsupp.ext fun u => ?_); cases u
  rw [Pipeline.launchCredit_owing, Finsupp.single_eq_same, owed_sum]

omit [FloatOps F] [Named F] in
theorem creds (c : Dev nD) :
    (Pipeline.launchCred O₀ c : sProp 𝕄) ⊢ bigSep Finset.univ fun k : Kd => cred (tallyAt (kcell (c, k)) () (lc k)) := by
  unfold Pipeline.launchCred
  refine (Idealize.SL.BI.bigSep_subset (Finset.subset_univ (Finset.univ.map ⟨csem, csem_inj⟩))).trans ?_
  rw [bigSep_map]
  exact Idealize.SL.BI.bigSep_mono fun k _ => Entails.of_eq (congrArg cred (launch_cell c k))

/-! ## The theorem's side conditions -/

omit [FloatOps F] [Named F] in
/-- Positions, tokens and credits, regrouped copy by copy. -/
theorem linear_split (c : Dev nD) :
    iprop(linear c ∗ bigSep Finset.univ fun k : Kd => cred (tallyAt (kcell (c, k)) () (lc k)))
      ⊢ (iprop(barGhost c ∗ nine (job0 c) ∗ cred (tallyAt (kcell (c, none)) () 3)) : sProp 𝕄) := by
  unfold linear payToks
  rw [← nine_eq]
  unfold job0 barGhost
  simp only [bigSep_sep', kind_split, xfer_split, tk_split, bigSep_three]
  iintro ⟨⟨⟨⟨HaS, HaR⟩, HaB⟩, ⟨⟨Ht0, Ht1, Ht2⟩, HtS, HtR⟩⟩, ⟨-, HcR⟩, HcB⟩
  isplitl [HaB Ht0 Ht1 Ht2]
  · isplitl [HaB]; · iexact HaB
    isplitl [Ht2]; · iexact Ht2
    isplitl [Ht1]; · iexact Ht1
    iexact Ht0
  isplitr [HcB]
  · isplitl [HaS]; · iexact HaS
    isplitl [HaR]; · iexact HaR
    isplitl [HtS]; · iexact HtS
    isplitl [HtR]; · iexact HtR
    iexact HcR
  iexact HcB

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, Hlev, Hcr, -, ⟨%K, HR, Hl⟩⟩
  ihave Hc := (creds (F := F) c) $$ Hcr
  ihave H := (linear_split (F := F) c) $$ [Hl Hc]
  · isplitl [Hl] <;> iassumption
  icases H with ⟨HB, HJ, Hc⟩
  imodintro
  isplitl
  · iexists K
    isplitl [HR]; · iexact HR
    isplitl [HB]; · iexact HB
    isplitl [HJ]; · iexact HJ
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratchAny
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratchAny Pipeline.ownSems0
  rw [← nine_eq, xfer_split]
  unfold job3
  rw [bigSep_sep']
  iintro ⟨Hr, ⟨HzS, HzR⟩, HzB⟩
  isplitl [HzB]; · iexact HzB
  isplitl [HzS HzR]
  · isplitl [HzS]; · iexact HzS
    iexact HzR
  iexact Hr

theorem stage_lv (c : Dev nD) (w : Fin 9) (s : Fin (spec0 w).nbuf) : lv ((c : Thread nD τ), .dma ((spec0 w).sem s)) () = 0 := by
  have h : ∀ k : Kd, csem k ≠ .dma ((spec0 w).sem s) := by
    revert w s; decide +kernel
  unfold lv
  cases hk : kindOf (.dma ((spec0 w).sem s)) with
  | none => rfl
  | some k => exact absurd (kindOf_some hk) (h k)

theorem waits (c : Dev nD) : (levAts L lv : sProp 𝕄) ⊢ Pipeline.cellsWaits cfgs (dats m ρ) () 0 c :=
  Pipeline.cellsWaits_intro cfgs (dats m ρ) () 0 c fun w s t =>
    mayWait_zero c _ (stage_lv c w s) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

set_option maxRecDepth 8000 in
/-- From any memory with zero counters, on every device at once, the program ends: each window's array at its final
    contents, every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Proto
-- ==== Proof.KernelIdeal.Final.lean ====
/-
# What the run leaves in the argument and result arrays

Every window is a whole array, so an array read through its window is the array; the arguments end unchanged and the result
array ends with what the body stores, `outAt`.
-/
module

public import proofs.«01_k».proof.Proof.KernelIdeal.Launch
public import Idealize.ShloMosaic.Lib.Pipeline.Value

@[expose] public section

noncomputable section

namespace Cert.KernelIdeal.Proto

open Cert.KernelIdeal Cert.KernelIdeal.Gen
open Idealize.ShloMosaic Idealize.ShloMosaic.Pipeline Idealize.ShloMosaic.TcCoe Idealize.SL.Sem

variable {F : FTy → Type} [FloatOps F] [Named F]
variable (m : (ℓ : Loc nD τ sig) → Buf (Elt F) ℓ) (ρ : Dev nD → PrngReg)

omit [FloatOps F] [Named F] in
theorem read0 (t : Fin 1) (f : (main_arg0 : Ref sig .tc).ty.Contents (Elt F)) : (win0_0.blk t).view.read (Elt F) f = f :=
  funext fun y => congrArg f (funext fun a => Fin.ext (win0_0.rect_emb_val_of_index_zero t a rfl y))
omit [FloatOps F] [Named F] in
theorem read1 (t : Fin 1) (f : (main_arg1 : Ref sig .tc).ty.Contents (Elt F)) : (win0_1.blk t).view.read (Elt F) f = f :=
  funext fun y => congrArg f (funext fun a => Fin.ext (win0_1.rect_emb_val_of_index_zero t a rfl y))
omit [FloatOps F] [Named F] in
theorem read2 (t : Fin 1) (f : (main_arg2 : Ref sig .tc).ty.Contents (Elt F)) : (win0_2.blk t).view.read (Elt F) f = f :=
  funext fun y => congrArg f (funext fun a => Fin.ext (win0_2.rect_emb_val_of_index_zero t a rfl y))
omit [FloatOps F] [Named F] in
theorem read3 (t : Fin 1) (f : (main_arg3 : Ref sig .tc).ty.Contents (Elt F)) : (win0_3.blk t).view.read (Elt F) f = f :=
  funext fun y => congrArg f (funext fun a => Fin.ext (win0_3.rect_emb_val_of_index_zero t a rfl y))
omit [FloatOps F] [Named F] in
theorem read4 (t : Fin 1) (f : (main_arg4 : Ref sig .tc).ty.Contents (Elt F)) : (win0_4.blk t).view.read (Elt F) f = f :=
  funext fun y => congrArg f (funext fun a => Fin.ext (win0_4.rect_emb_val_of_index_zero t a rfl y))
omit [FloatOps F] [Named F] in
theorem read5 (t : Fin 1) (f : (main_arg5 : Ref sig .tc).ty.Contents (Elt F)) : (win0_5.blk t).view.read (Elt F) f = f :=
  funext fun y => congrArg f (funext fun a => Fin.ext (win0_5.rect_emb_val_of_index_zero t a rfl y))
omit [FloatOps F] [Named F] in
theorem read6 (t : Fin 1) (f : (main_arg6 : Ref sig .tc).ty.Contents (Elt F)) : (win0_6.blk t).view.read (Elt F) f = f :=
  funext fun y => congrArg f (funext fun a => Fin.ext (win0_6.rect_emb_val_of_index_zero t a rfl y))
omit [FloatOps F] [Named F] in
theorem read7 (t : Fin 1) (f : (main_arg7 : Ref sig .tc).ty.Contents (Elt F)) : (win0_7.blk t).view.read (Elt F) f = f :=
  funext fun y => congrArg f (funext fun a => Fin.ext (win0_7.rect_emb_val_of_index_zero t a rfl y))
omit [FloatOps F] [Named F] in
theorem read8 (t : Fin 1) (f : (main_v1 : Ref sig .tc).ty.Contents (Elt F)) : (win0_8.blk t).view.read (Elt F) f = f :=
  funext fun y => congrArg f (funext fun a => Fin.ext (win0_8.rect_emb_val_of_index_zero t a rfl y))

/-- The loads of the eight arguments are the argument arrays. -/
theorem a0_eq (c : Dev nD) : a0 m ρ c = m ((c : Thread nD τ).loc main_arg0) := read0 0 _
theorem a1_eq (c : Dev nD) : a1 m ρ c = m ((c : Thread nD τ).loc main_arg1) := read1 0 _
theorem a2_eq (c : Dev nD) : a2 m ρ c = m ((c : Thread nD τ).loc main_arg2) := read2 0 _
theorem a3_eq (c : Dev nD) : a3 m ρ c = m ((c : Thread nD τ).loc main_arg3) := read3 0 _
theorem a4_eq (c : Dev nD) : a4 m ρ c = m ((c : Thread nD τ).loc main_arg4) := read4 0 _
theorem a5_eq (c : Dev nD) : a5 m ρ c = m ((c : Thread nD τ).loc main_arg5) := read5 0 _
theorem a6_eq (c : Dev nD) : a6 m ρ c = m ((c : Thread nD τ).loc main_arg6) := read6 0 _
theorem a7_eq (c : Dev nD) : a7 m ρ c = m ((c : Thread nD τ).loc main_arg7) := read7 0 _

/-- The result array ends with the stored rows. -/
theorem final8 (c : Dev nD) : finalA m ρ c (8 : Fin 9) = outAt m ρ c :=
  (dats m ρ 0 c).arrAt_eq_of_cover (8 : Fin 9) (outAt m ρ c) (fun t _ => (read8 t (outAt m ρ c)).symm)
    (fun i => ⟨(0 : Fin 1), rfl, by
      have h : (win0_8.blk (0 : Fin 1)).view.emb i = i := funext fun a => Fin.ext (win0_8.rect_emb_val_of_index_zero (0 : Fin 1) a rfl i)
      exact Finset.mem_map.mpr ⟨i, Finset.mem_univ i, h⟩⟩)

/-- The run: the result array holds the stored rows, the arguments are unchanged, every counter is back at zero. -/
theorem run_final : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun _ h => ⟨fun c => ⟨(h.1 c (8 : Fin 9)).trans (final8 m ρ c),
    (h.1 c (0 : Fin 9)).trans ((dats m ρ 0 c).arrAt_in (0 : Fin 9) rfl _),
    (h.1 c (1 : Fin 9)).trans ((dats m ρ 0 c).arrAt_in (1 : Fin 9) rfl _),
    (h.1 c (2 : Fin 9)).trans ((dats m ρ 0 c).arrAt_in (2 : Fin 9) rfl _),
    (h.1 c (3 : Fin 9)).trans ((dats m ρ 0 c).arrAt_in (3 : Fin 9) rfl _),
    (h.1 c (4 : Fin 9)).trans ((dats m ρ 0 c).arrAt_in (4 : Fin 9) rfl _),
    (h.1 c (5 : Fin 9)).trans ((dats m ρ 0 c).arrAt_in (5 : Fin 9) rfl _),
    (h.1 c (6 : Fin 9)).trans ((dats m ρ 0 c).arrAt_in (6 : Fin 9) rfl _),
    (h.1 c (7 : Fin 9)).trans ((dats m ρ 0 c).arrAt_in (7 : Fin 9) rfl _)⟩, h.2⟩) (run_main m ρ)

end Cert.KernelIdeal.Proto
-- ==== Proof.KernelIdeal.Heads.lean ====
/-
# One attention head of the kernel, for every batch row and head

`head b h` is head `h` of batch row `b` as the body computes it, with the slices at the offsets that row and head give.
`rows_eq` says that the two stored rows are the sixteen heads of the row side by side, projected.
-/
module

public import proofs.«01_k».proof.Proof.KernelIdeal.Rows

@[expose] public section

noncomputable section

namespace Cert.KernelIdeal.Proto

open Cert.KernelIdeal Cert.KernelIdeal.Gen
open Idealize.ShloMosaic

variable {F : FTy → Type} [FloatOps F] [Named F]

/-- Head `h`'s 64 columns of batch row `b` fit in the 512 × 1024 queries, keys and values. -/
theorem slices64 (b : Fin 2) (h : Fin 16) : S512x1024.Slices ![256 * b.val, 64 * h.val] S256x64 := by
  refine ⟨rfl, fun a => ?_⟩
  have := b.isLt; have := h.isLt
  fin_cases a
  · show 256 * b.val + 256 ≤ 512; omega
  · show 64 * h.val + 64 ≤ 1024; omega

/-- Head `h`'s 32 rotary columns of batch row `b` fit in the 512 × 512 rotary queries. -/
theorem slices32 (b : Fin 2) (h : Fin 16) : S512x512.Slices ![256 * b.val, 32 * h.val] S256x32 := by
  refine ⟨rfl, fun a => ?_⟩
  have := b.isLt; have := h.isLt
  fin_cases a
  · show 256 * b.val + 256 ≤ 512; omega
  · show 32 * h.val + 32 ≤ 512; omega

/-- Batch row `b` of the shared rotary keys. -/
theorem slicesKr (b : Fin 2) : S512x32.Slices ![256 * b.val, 0] S256x32 := by
  refine ⟨rfl, fun a => ?_⟩
  have := b.isLt
  fin_cases a
  · show 256 * b.val + 256 ≤ 512; omega
  · show 0 + 32 ≤ 32; omega

/-- The exponentials of the scores of head `h` in batch row `b`. -/
def expScore (q k : FVec F S512x1024 .bf16) (qr : FVec F S512x512 .bf16) (kr : FVec F S512x32 .bf16)
    (b : Fin 2) (h : Fin 16) : FVec F S256x256 .f32 :=
  exp (addf
    (matmul dot_S256x64_S256x64_S256x256_1_1_0_0_n_n none
      (extractStridedSlice S256x64 ![256 * b.val, 64 * h.val] q (slices64 b h))
      (extractStridedSlice S256x64 ![256 * b.val, 64 * h.val] k (slices64 b h)) (constant S256x256 .f32 0x00000000#32))
    (matmul dot_S256x32_S256x32_S256x256_1_1_0_0_n_n none
      (extractStridedSlice S256x32 ![256 * b.val, 32 * h.val] qr (slices32 b h))
      (extractStridedSlice S256x32 ![256 * b.val, 0] kr (slicesKr b)) (constant S256x256 .f32 0x00000000#32)))

/-- Head `h` of batch row `b`. -/
def head (q k v : FVec F S512x1024 .bf16) (qr : FVec F S512x512 .bf16) (kr : FVec F S512x32 .bf16)
    (b : Fin 2) (h : Fin 16) : FVec F S256x64 .bf16 :=
  truncf .bf16
    (mulf
      (matmul dot_S256x256_S256x64_S256x64_1_0_0_1_n_n none (truncf .bf16 (expScore q k qr kr b h) bitsLt_bf16_f32)
        (extractStridedSlice S256x64 ![256 * b.val, 64 * h.val] v (slices64 b h)) (constant S256x64 .f32 0x00000000#32))
      (broadcastTo S256x64
        (divf (broadcast S256x1 (Scalar.ofBits .f32 0x3F800000#32))
          (shapeCast S256x1
            (multiReduction .add [1] S256 (expScore q k qr kr b h) 0x00000000#32 reduces_S256x256_S256 (.inl rfl) rfl)
            shapeCasts_S256_S256x1))
        broadcasts_S256x1_S256x64)) bitsLt_bf16_f32

/-- Batch row `b` of the output: its sixteen heads side by side, projected. -/
def rowOf (q k v : FVec F S512x1024 .bf16) (qr : FVec F S512x512 .bf16) (kr : FVec F S512x32 .bf16)
    (wo : FVec F S1024x1024 .bf16) (b : Fin 2) : FVec F S1x256x1024 .f32 :=
  shapeCast S1x256x1024
    (matmul dot_S256x1024_S1024x1024_S256x1024_1_0_0_1_n_n none
      (concatenate S256x1024 1
        (List.ofFn fun h : Fin 16 => (⟨S256x64, head q k v qr kr b h⟩ : (s : Shape) × (s.Idx → F .bf16)))
        concatenates_S256x64_S256x64_S256x64_S256x64_S256x64_S256x64_S256x64_S256x64_S256x64_S256x64_S256x64_S256x64_S256x64_S256x64_S256x64_S256x64_S256x1024_d1)
      wo (constant S256x1024 .f32 0x00000000#32))
    shapeCasts_S256x1024_S1x256x1024

/-- The two rows the body stores. -/
theorem rows_eq (v34 : Vec F S2x256x1024 .bf16) (v198 : Vec F S1024x1024 .bf16) (v204 : Vec F S1024x512 .bf16) (v210 : Vec F S1024x32 .bf16)
    (v472 v474 v476 v478 : Vec F S1x512x64 .bf16) (v481 v483 v485 v487 : Vec F S1x64x1024 .bf16) (v490 v492 v494 v496 : Vec F S1x64x1024 .bf16)
    (v503 : Vec F S1024x1024 .bf16) :
    rows v34 v198 v204 v210 v472 v474 v476 v478 v481 v483 v485 v487 v490 v492 v494 v496 v503
      = (let q := k0_pay8 (k0_pay4 v34) v198
         let qr := k0_pay9 (k0_pay4 v34) v204
         let kr := k0_pay10 (k0_pay4 v34) v210
         let d := k0_pay47 v472 v474 v476 v478
         let k := k0_pay51 d (k0_pay48 v481 v483 v485 v487)
         let v := k0_pay51 d (k0_pay48 v490 v492 v494 v496)
         (rowOf q k v qr kr (k0_pay53 v503) 0, rowOf q k v qr kr (k0_pay53 v503) 1)) := rfl

end Cert.KernelIdeal.Proto
-- ==== Proof.Attn.lean ====
/-
# Latent attention over the real numbers

`out` is the layer both programs compute, for real arguments: the latent `x · wd`, keys and values expanded from it, a rotary
part of the scores shared by the heads, softmax of the scaled scores, and the output projection. The two lemmas after it are the
two places where the programs compute it differently: the softmax shifted by a number of each row (`head_eq_shifted`), and the
contraction over the latent taken in an order that starts at another block (`sum_turned`).
-/
module

public import Mathlib.Analysis.SpecialFunctions.Pow.Real
public import Mathlib.Analysis.Real.Sqrt
public import Mathlib.Tactic.FieldSimp

@[expose] public section

noncomputable section

namespace Cert.Attn

open scoped BigOperators

/-- The eight arguments, as real functions of their coordinates. -/
structure Args where
  x : Fin 2 → Fin 256 → Fin 1024 → ℝ
  wd : Fin 1024 → Fin 256 → ℝ
  wk : Fin 256 → Fin 1024 → ℝ
  wv : Fin 256 → Fin 1024 → ℝ
  wq : Fin 1024 → Fin 1024 → ℝ
  wqr : Fin 1024 → Fin 512 → ℝ
  wkr : Fin 1024 → Fin 32 → ℝ
  wo : Fin 1024 → Fin 1024 → ℝ

/-- Column `e` of head `h`, among the 16 × 64 columns, … -/
def col64 (h : Fin 16) (e : Fin 64) : Fin 1024 := ⟨64 * h.val + e.val, by omega⟩
/-- … and among the 16 × 32 rotary columns. -/
def col32 (h : Fin 16) (e : Fin 32) : Fin 512 := ⟨32 * h.val + e.val, by omega⟩
/-- The head a column belongs to … -/
def headOf (k : Fin 1024) : Fin 16 := ⟨k.val / 64, by omega⟩
/-- … and its place there. -/
def inHead (k : Fin 1024) : Fin 64 := ⟨k.val % 64, by omega⟩

/-- The scale of the scores. -/
def scale : ℝ := (Real.sqrt 96)⁻¹

variable (A : Args)

def lat (b : Fin 2) (s : Fin 256) (j : Fin 256) : ℝ := ∑ d, A.x b s d * A.wd d j
def key (b : Fin 2) (s : Fin 256) (n : Fin 1024) : ℝ := ∑ j, lat A b s j * A.wk j n
def val (b : Fin 2) (s : Fin 256) (n : Fin 1024) : ℝ := ∑ j, lat A b s j * A.wv j n
def qry (b : Fin 2) (s : Fin 256) (n : Fin 1024) : ℝ := ∑ d, A.x b s d * A.wq d n
def qryR (b : Fin 2) (s : Fin 256) (n : Fin 512) : ℝ := ∑ d, A.x b s d * A.wqr d n
def keyR (b : Fin 2) (s : Fin 256) (e : Fin 32) : ℝ := ∑ d, A.x b s d * A.wkr d e

def score (b : Fin 2) (h : Fin 16) (s t : Fin 256) : ℝ :=
  ((∑ e, qry A b s (col64 h e) * key A b t (col64 h e)) + ∑ e, qryR A b s (col32 h e) * keyR A b t e) * scale

/-- The attention of one head: the values weighted by the exponentials of the scores, over the sum of those. -/
def head (b : Fin 2) (h : Fin 16) (s : Fin 256) (e : Fin 64) : ℝ :=
  (∑ t, Real.exp (score A b h s t) * val A b t (col64 h e)) * (1 / ∑ t, Real.exp (score A b h s t))

def out (b : Fin 2) (s : Fin 256) (n : Fin 1024) : ℝ := ∑ k, head A b (headOf k) s (inHead k) * A.wo k n

theorem sum_exp_pos (f : Fin 256 → ℝ) : 0 < ∑ t, Real.exp (f t) :=
  Finset.sum_pos (fun t _ => Real.exp_pos _) ⟨0, Finset.mem_univ _⟩

/-- The scores with the scale multiplied into the queries. -/
theorem score_eq (b : Fin 2) (h : Fin 16) (s t : Fin 256) :
    score A b h s t = (∑ e, (qry A b s (col64 h e) * scale) * key A b t (col64 h e)) + ∑ e, (qryR A b s (col32 h e) * scale) * keyR A b t e := by
  unfold score
  rw [add_mul, Finset.sum_mul, Finset.sum_mul]
  simp only [mul_right_comm]

/-- The softmax does not see a number subtracted from the whole row. -/
theorem head_eq_shifted (b : Fin 2) (h : Fin 16) (s : Fin 256) (e : Fin 64) (M : ℝ) :
    (∑ t, val A b t (col64 h e) * (Real.exp (score A b h s t - M) / ∑ u, Real.exp (score A b h s u - M))) = head A b h s e := by
  have hz := (sum_exp_pos (score A b h s)).ne'
  have hM := (Real.exp_pos M).ne'
  have hs : (∑ u, Real.exp (score A b h s u - M)) = (∑ u, Real.exp (score A b h s u)) / Real.exp M := by
    rw [div_eq_mul_inv, Finset.sum_mul]
    exact Finset.sum_congr rfl fun u _ => by rw [Real.exp_sub, div_eq_mul_inv]
  unfold head
  rw [hs, Finset.sum_mul]
  refine Finset.sum_congr rfl fun t _ => ?_
  rw [Real.exp_sub]
  field_simp

/-- Position `j` of the gathered blocks on a device of coordinate `y`: block `j / 64` there is the block of the device
    `j / 64` steps before. -/
def turned (y : ℕ) (j : Fin 256) : Fin 256 := ⟨64 * ((y + (4 - j.val / 64)) % 4) + j.val % 64, by omega⟩

theorem turned_bij (y : ℕ) : Function.Bijective (turned y) := by
  refine Finite.injective_iff_bijective.mp fun i j h => Fin.ext ?_
  have h := Fin.ext_iff.mp h
  have := i.isLt; have := j.isLt
  simp only [turned] at h
  omega

/-- A sum over the gathered positions is the sum over the latent. -/
theorem sum_turned (y : ℕ) (f : Fin 256 → ℝ) : (∑ j, f (turned y j)) = ∑ j, f j :=
  Function.Bijective.sum_comp (turned_bij y) f

end Cert.Attn
-- ==== Proof.Reals.lean ====
/-
# Arrays of real numbers over the extended reals

`IsR a f` says that the array `a` holds the real numbers `f`. Sums, products, exponentials and quotients of such arrays are again
such arrays, so each program's arrays can be followed in the real numbers.
-/
module

public import Idealize.ShloMosaic.Lib.MatmulPlain
public import Idealize.ShloMosaic.Lib.ValueIdx
public import Idealize.ShloMosaic.Lib.IdealHost
public import Idealize.ShloMosaic.Lib.Pipeline.Value
public import Idealize.ShloMosaic.PureOps.IdealRules

@[expose] public section

noncomputable section

namespace Cert.Reals

open Idealize.ShloMosaic Idealize.ShloMosaic.ValueIdx
open scoped BigOperators

/-- A finite sum of reals, taken in the extended reals. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A sum of products of reals. -/
theorem sum_mul_coe {ι : Type} (s : Finset ι) (f g : ι → ℝ) :
    ∑ k ∈ s, ((f k : ℝ) : EReal) * ((g k : ℝ) : EReal) = ((∑ k ∈ s, f k * g k : ℝ) : EReal) := by
  rw [coe_sum]; exact Finset.sum_congr rfl fun k _ => (EReal.coe_mul _ _).symm

/-- A quotient of reals with a divisor that is not zero. -/
theorem div_real {x y : ℝ} (h : y ≠ 0) : Ideal.div ((x : ℝ) : EReal) ((y : ℝ) : EReal) = ((x / y : ℝ) : EReal) := by
  rw [Ideal.div_coe h, ← EReal.coe_mul, mul_one_div]

/-- The larger of two reals, kept a real: a left fold of maxima over real values from anything but `⊤` is a real number once it has met
    one. -/
theorem foldl_max_real {ι : Type} (g : ι → EReal) (hg : ∀ i, ∃ x : ℝ, g i = x) :
    ∀ (l : List ι) (a : EReal), a ≠ ⊤ → (a ≠ ⊥ ∨ l ≠ []) → ∃ x : ℝ, l.foldl (fun r n => max r (g n)) a = x
  | [], a, ht, hb => by
    have hb : a ≠ ⊥ := hb.resolve_right (fun h => h rfl)
    exact ⟨a.toReal, (EReal.coe_toReal ht hb).symm⟩
  | i :: l, a, ht, hb => by
    obtain ⟨x, hx⟩ := hg i
    refine foldl_max_real g hg l (max a (g i)) ?_ (Or.inl ?_)
    · rw [hx]; exact (max_lt (lt_top_iff_ne_top.mpr ht) (EReal.coe_lt_top x)).ne
    · rw [hx]; exact ((EReal.bot_lt_coe x).trans_le (le_max_right _ _)).ne'

/-- The array `a` holds the reals `f`. -/
def IsR {M N : ℕ} {φ : FTy} (a : FVec Ideal ⟨2, ![M, N]⟩ φ) (f : Fin M → Fin N → ℝ) : Prop :=
  ∀ r c, a (ix2 r c) = ((f r c : ℝ) : EReal)

theorem IsR.congr {M N : ℕ} {φ : FTy} {a : FVec Ideal ⟨2, ![M, N]⟩ φ} {f g : Fin M → Fin N → ℝ} (h : IsR a f)
    (e : ∀ r c, f r c = g r c) : IsR a g := fun r c => (h r c).trans (congrArg _ (e r c))

/-- A plain product. -/
theorem IsR.dot {M K N : ℕ} {φ₁ φ₂ : FTy} {l : FVec Ideal ⟨2, ![M, K]⟩ φ₁} {r : FVec Ideal ⟨2, ![K, N]⟩ φ₂}
    {f : Fin M → Fin K → ℝ} {g : Fin K → Fin N → ℝ} (hl : IsR l f) (hr : IsR r g) :
    IsR (matmul (DotDims.plain M K N) none l r (constant ⟨2, ![M, N]⟩ .f32 0x00000000#32)) (fun i j => ∑ k, f i k * g k j) := by
  intro i j
  refine (Ideal.matmul_plain_apply none l r _ i j).trans ?_
  rw [constant_apply, Ideal.ofBits_zero_f32, zero_add, ← sum_mul_coe]
  exact Finset.sum_congr rfl fun k _ => by rw [hl, hr]

/-- A product with the second factor transposed. -/
theorem IsR.dotT {M K N : ℕ} {φ₁ φ₂ : FTy} {l : FVec Ideal ⟨2, ![M, K]⟩ φ₁} {r : FVec Ideal ⟨2, ![N, K]⟩ φ₂}
    {f : Fin M → Fin K → ℝ} {g : Fin N → Fin K → ℝ} (hl : IsR l f) (hr : IsR r g) :
    IsR (matmul (DotDims.transposedRhs M K N) none l r (constant ⟨2, ![M, N]⟩ .f32 0x00000000#32)) (fun i j => ∑ k, f i k * g j k) := by
  intro i j
  refine (Ideal.matmul_transposedRhs_apply none l r _ i j).trans ?_
  rw [constant_apply, Ideal.ofBits_zero_f32, zero_add, ← sum_mul_coe]
  exact Finset.sum_congr rfl fun k _ => by rw [hl, hr]

theorem IsR.narrow {M N : ℕ} {φ ψ : FTy} {a : FVec Ideal ⟨2, ![M, N]⟩ φ} {f : Fin M → Fin N → ℝ} (h : IsR a f) (hb : ψ.bits < φ.bits) :
    IsR (truncf ψ a hb) f := h

theorem IsR.plus {M N : ℕ} {φ : FTy} {a b : FVec Ideal ⟨2, ![M, N]⟩ φ} {f g : Fin M → Fin N → ℝ} (ha : IsR a f) (hb : IsR b g) :
    IsR (addf a b) (fun r c => f r c + g r c) := fun r c => by
  rw [addf_apply, ha, hb, EReal.coe_add]

theorem IsR.times {M N : ℕ} {φ : FTy} {a b : FVec Ideal ⟨2, ![M, N]⟩ φ} {f g : Fin M → Fin N → ℝ} (ha : IsR a f) (hb : IsR b g) :
    IsR (mulf a b) (fun r c => f r c * g r c) := fun r c => by
  rw [mulf_apply, ha, hb, EReal.coe_mul]

theorem IsR.expo {M N : ℕ} {φ : FTy} {a : FVec Ideal ⟨2, ![M, N]⟩ φ} {f : Fin M → Fin N → ℝ} (ha : IsR a f) :
    IsR (exp a) (fun r c => Real.exp (f r c)) := fun r c => by
  show Ideal.exp (a (ix2 r c)) = _
  rw [ha, Ideal.exp_coe]

/-- The columns `[64h, …)` of the rows `[256b, …)`. -/
theorem IsR.slice {M N m n o p : ℕ} {φ : FTy} {a : FVec Ideal ⟨2, ![M, N]⟩ φ} {f : Fin M → Fin N → ℝ} (ha : IsR a f)
    (h : (⟨2, ![M, N]⟩ : Shape).Slices ![o, p] ⟨2, ![m, n]⟩) (hm : ∀ r : Fin m, o + r.val < M) (hn : ∀ c : Fin n, p + c.val < N) :
    IsR (extractStridedSlice ⟨2, ![m, n]⟩ ![o, p] a h : FVec Ideal ⟨2, ![m, n]⟩ φ) (fun r c => f ⟨o + r.val, hm r⟩ ⟨p + c.val, hn c⟩) := by
  intro r c
  rw [extractStridedSlice_apply ![o, p] a h (ix2 r c) (ix2 ⟨o + r.val, hm r⟩ ⟨p + c.val, hn c⟩)
    (fun a => match a with | ⟨0, _⟩ => rfl | ⟨1, _⟩ => rfl)]
  exact ha _ _

/-- Arrays of equal width side by side. -/
theorem IsR.concatCols {M K T : ℕ} {φ : FTy} {N : ℕ} (a : Fin N → FVec Ideal ⟨2, ![M, K]⟩ φ) (f : Fin N → Fin M → Fin K → ℝ)
    (ha : ∀ n, IsR (a n) (f n))
    (h : Shape.Concatenates ((List.ofFn fun n : Fin N => (⟨⟨2, ![M, K]⟩, a n⟩ : (s : Shape) × (s.Idx → Ideal φ))).map (·.1)) ⟨2, ![M, T]⟩ 1)
    (hK : 0 < K) (hN : ∀ j : Fin T, j.val / K < N) :
    IsR (concatenate ⟨2, ![M, T]⟩ 1 (List.ofFn fun n : Fin N => (⟨⟨2, ![M, K]⟩, a n⟩ : (s : Shape) × (s.Idx → Ideal φ))) h : FVec Ideal ⟨2, ![M, T]⟩ φ)
      (fun r j => f ⟨j.val / K, hN j⟩ r ⟨j.val % K, Nat.mod_lt _ hK⟩) := by
  intro r j
  refine (concatenate_ofFn_apply (t := ⟨2, ![M, T]⟩) (s₁ := ⟨2, ![M, K]⟩) 1 a h rfl K rfl (ix2 r j) ⟨j.val / K, hN j⟩ rfl
    (ix2 r ⟨j.val % K, Nat.mod_lt _ hK⟩) rfl (fun b hb => ?_)).trans (ha _ _ _)
  match b with
  | ⟨0, _⟩ => rfl
  | ⟨1, _⟩ => exact absurd rfl hb

/-- Arrays of equal height on top of each other. -/
theorem IsR.concatRows {K W T : ℕ} {φ : FTy} {N : ℕ} (a : Fin N → FVec Ideal ⟨2, ![K, W]⟩ φ) (f : Fin N → Fin K → Fin W → ℝ)
    (ha : ∀ n, IsR (a n) (f n))
    (h : Shape.Concatenates ((List.ofFn fun n : Fin N => (⟨⟨2, ![K, W]⟩, a n⟩ : (s : Shape) × (s.Idx → Ideal φ))).map (·.1)) ⟨2, ![T, W]⟩ 0)
    (hK : 0 < K) (hN : ∀ j : Fin T, j.val / K < N) :
    IsR (concatenate ⟨2, ![T, W]⟩ 0 (List.ofFn fun n : Fin N => (⟨⟨2, ![K, W]⟩, a n⟩ : (s : Shape) × (s.Idx → Ideal φ))) h : FVec Ideal ⟨2, ![T, W]⟩ φ)
      (fun j c => f ⟨j.val / K, hN j⟩ ⟨j.val % K, Nat.mod_lt _ hK⟩ c) := by
  intro j c
  refine (concatenate_ofFn_apply (t := ⟨2, ![T, W]⟩) (s₁ := ⟨2, ![K, W]⟩) 0 a h rfl K rfl (ix2 j c) ⟨j.val / K, hN j⟩ rfl
    (ix2 ⟨j.val % K, Nat.mod_lt _ hK⟩ c) rfl (fun b hb => ?_)).trans (ha _ _ _)
  match b with
  | ⟨0, _⟩ => exact absurd rfl hb
  | ⟨1, _⟩ => rfl

end Cert.Reals
-- ==== Proof.KernelIdeal.Value.lean ====
/-
# What the kernel computes, in the real numbers

For arguments that hold real numbers, each array the body computes holds the real numbers that `Cert.Attn` names: the queries
(scaled), the keys and values expanded from the gathered latent blocks, the exponentials of the scores, the heads and the rows.
-/
module

public import proofs.«01_k».proof.Proof.KernelIdeal.Heads
public import proofs.«01_k».proof.Proof.KernelIdeal.Mem
public import proofs.«01_k».proof.Proof.Attn
public import proofs.«01_k».proof.Proof.Reals

@[expose] public section

noncomputable section

namespace Cert.KernelIdeal.Proto

open Cert.KernelIdeal Cert.KernelIdeal.Gen Cert.Attn Cert.Reals
open Idealize.ShloMosaic Idealize.ShloMosaic.ValueIdx Idealize.ShloMosaic.TcCoe
open scoped BigOperators

variable (A : Args)

/-! ## The 512 rows of the input are two batch rows of 256 -/

def rowB (r : Fin 512) : Fin 2 := ⟨r.val / 256, by omega⟩
def rowS (r : Fin 512) : Fin 256 := ⟨r.val % 256, by omega⟩

theorem rowB_at (b : Fin 2) (s : Fin 256) (h : 256 * b.val + s.val < 512) : rowB ⟨256 * b.val + s.val, h⟩ = b :=
  Fin.ext (by show (256 * b.val + s.val) / 256 = b.val; omega)
theorem rowS_at (b : Fin 2) (s : Fin 256) (h : 256 * b.val + s.val < 512) : rowS ⟨256 * b.val + s.val, h⟩ = s :=
  Fin.ext (by show (256 * b.val + s.val) % 256 = s.val; omega)

/-! ## The projections of the input -/

variable {A}

theorem pay4_real {v34 : Vec Ideal S2x256x1024 .bf16} (hx : ∀ b s d, v34 (ix3 b s d) = ((A.x b s d : ℝ) : EReal)) :
    IsR (k0_pay4 v34) (fun r d => A.x (rowB r) (rowS r) d) := fun r d => by
  show shapeCast S512x1024 (shapeCast S2x256x1024 v34 _) _ (ix2 r d) = _
  rw [shapeCast_self, shapeCast_apply v34 _ (ix2 r d) (ix3 (rowB r) (rowS r) d)
    (by rw [Shape.rowMajor_val_three, Shape.rowMajor_val_two]
        show ((r.val / 256) * 256 + r.val % 256) * 1024 + d.val = r.val * 1024 + d.val
        omega)]
  exact hx _ _ _

theorem scale_named : Named.named (F := Ideal) κ "scale" (φ := .f32) 0x3DD105EC#32 = ((scale : ℝ) : EReal) :=
  IdealRules.named_const.ideal_named_scalar _ _ _ _ rfl

theorem scale_real {M N : ℕ} : IsR (broadcast ⟨2, ![M, N]⟩ (Named.named (F := Ideal) κ "scale" (φ := .f32) 0x3DD105EC#32) : FVec Ideal ⟨2, ![M, N]⟩ .f32)
    (fun _ _ => scale) := fun _ _ => scale_named

theorem pay8_real {v36 : FVec Ideal S512x1024 .bf16} {w : Vec Ideal S1024x1024 .bf16} (hx : IsR v36 (fun r d => A.x (rowB r) (rowS r) d))
    (hw : IsR (φ := .bf16) w A.wq) : IsR (k0_pay8 v36 w) (fun r n => qry A (rowB r) (rowS r) n * scale) := by
  unfold k0_pay8
  rw [shapeCast_self]
  exact ((hx.dot hw).times scale_real).narrow _

theorem pay9_real {v36 : FVec Ideal S512x1024 .bf16} {w : Vec Ideal S1024x512 .bf16} (hx : IsR v36 (fun r d => A.x (rowB r) (rowS r) d))
    (hw : IsR (φ := .bf16) w A.wqr) : IsR (k0_pay9 v36 w) (fun r n => qryR A (rowB r) (rowS r) n * scale) := by
  unfold k0_pay9
  rw [shapeCast_self]
  exact ((hx.dot hw).times scale_real).narrow _

theorem pay10_real {v36 : FVec Ideal S512x1024 .bf16} {w : Vec Ideal S1024x32 .bf16} (hx : IsR v36 (fun r d => A.x (rowB r) (rowS r) d))
    (hw : IsR (φ := .bf16) w A.wkr) : IsR (k0_pay10 v36 w) (fun r e => keyR A (rowB r) (rowS r) e) := by
  unfold k0_pay10
  rw [shapeCast_self]
  exact (hx.dot hw).narrow _

theorem pay53_real {w : Vec Ideal S1024x1024 .bf16} (hw : IsR (φ := .bf16) w A.wo) : IsR (k0_pay53 w) A.wo := by
  unfold k0_pay53
  rw [shapeCast_self]
  exact hw

/-! ## The gathered blocks -/

/-- Position `j` of the block a device of coordinate `y` holds. -/
def blk (c : Dev nD) (j : Fin 64) : Fin 256 := ⟨64 * (c.val / 4 % 4) + j.val, by omega⟩

theorem blk_turned (c : Dev nD) (j : Fin 256) : blk (pr (4 - j.val / 64) c) ⟨j.val % 64, by omega⟩ = turned (c.val / 4 % 4) j :=
  Fin.ext (by
    show 64 * ((pr (4 - j.val / 64) c).val / 4 % 4) + j.val % 64 = 64 * ((c.val / 4 % 4 + (4 - j.val / 64)) % 4) + j.val % 64
    rw [pr_val]; omega)

/-- A device's block of the latent. -/
theorem pay5_real {v34 : Vec Ideal S2x256x1024 .bf16} {w : Vec Ideal S1024x64 .bf16} {f : Fin 64 → Fin 256} (hx : IsR (k0_pay4 v34) (fun r d => A.x (rowB r) (rowS r) d))
    (hw : IsR (φ := .bf16) w (fun d j => A.wd d (f j))) :
    IsR (shapeCast S512x64 (k0_pay5 v34 w) shapeCasts_S1x512x64_S512x64) (fun r j => lat A (rowB r) (rowS r) (f j)) := by
  unfold k0_pay5
  rw [shapeCast_self, shapeCast_shapeCast]
  exact (hx.dot hw).narrow _

/-- The four gathered latent blocks, side by side. -/
theorem pay47_real (B : Fin 4 → Vec Ideal S1x512x64 .bf16) (f : Fin 4 → Fin 512 → Fin 64 → ℝ)
    (hB : ∀ n, IsR (shapeCast S512x64 (B n) shapeCasts_S1x512x64_S512x64 : FVec Ideal S512x64 .bf16) (f n)) :
    IsR (k0_pay47 (B 0) (B 1) (B 2) (B 3)) (fun r j => f ⟨j.val / 64, by omega⟩ r ⟨j.val % 64, by omega⟩) :=
  IsR.concatCols (fun n => shapeCast S512x64 (B n) shapeCasts_S1x512x64_S512x64) f hB
    concatenates_S512x64_S512x64_S512x64_S512x64_S512x256_d1 (by decide) (fun j => by omega)

/-- Four gathered blocks of an expanding weight, on top of each other. -/
theorem pay48_real (B : Fin 4 → Vec Ideal S1x64x1024 .bf16) (f : Fin 4 → Fin 64 → Fin 1024 → ℝ)
    (hB : ∀ n, IsR (shapeCast S64x1024 (B n) shapeCasts_S1x64x1024_S64x1024 : FVec Ideal S64x1024 .bf16) (f n)) :
    IsR (k0_pay48 (B 0) (B 1) (B 2) (B 3)) (fun j n => f ⟨j.val / 64, by omega⟩ ⟨j.val % 64, by omega⟩ n) :=
  IsR.concatRows (fun n => shapeCast S64x1024 (B n) shapeCasts_S1x64x1024_S64x1024) f hB
    concatenates_S64x1024_S64x1024_S64x1024_S64x1024_S256x1024_d0 (by decide) (fun j => by omega)

/-- The expansion, contracted over the gathered positions. -/
theorem pay51_real {d : FVec Ideal S512x256 .bf16} {w : FVec Ideal S256x1024 .bf16} {y : ℕ} {g : Fin 256 → Fin 1024 → ℝ}
    (hd : IsR d (fun r j => lat A (rowB r) (rowS r) (turned y j))) (hw : IsR w (fun j n => g (turned y j) n)) :
    IsR (k0_pay51 d w) (fun r n => ∑ j, lat A (rowB r) (rowS r) j * g j n) := by
  unfold k0_pay51
  exact ((hd.dot hw).narrow _).congr fun r n => sum_turned y fun j => lat A (rowB r) (rowS r) j * g j n

/-! ## One head -/

variable {q k v : FVec Ideal S512x1024 .bf16} {qr : FVec Ideal S512x512 .bf16} {kr : FVec Ideal S512x32 .bf16}

theorem expScore_real (hq : IsR q (fun r n => qry A (rowB r) (rowS r) n * scale)) (hk : IsR k (fun r n => key A (rowB r) (rowS r) n))
    (hqr : IsR qr (fun r n => qryR A (rowB r) (rowS r) n * scale)) (hkr : IsR kr (fun r e => keyR A (rowB r) (rowS r) e))
    (b : Fin 2) (h : Fin 16) : IsR (expScore q k qr kr b h) (fun s t => Real.exp (score A b h s t)) := by
  have hb := b.isLt
  have hh := h.isLt
  have e := (((hq.slice (slices64 b h) (fun r => by omega) (fun c => by omega)).dotT
      (hk.slice (slices64 b h) (fun r => by omega) (fun c => by omega))).plus
    ((hqr.slice (slices32 b h) (fun r => by omega) (fun c => by omega)).dotT
      (hkr.slice (slicesKr b) (fun r => by omega) (fun c => by omega)))).expo
  refine IsR.congr e fun s t => ?_
  simp only [rowB_at, rowS_at, Nat.zero_add, Fin.eta]
  rw [score_eq]
  rfl

/-- The sum of a row, one column wide. -/
theorem rowSum_real {p : FVec Ideal S256x256 .f32} {f : Fin 256 → Fin 256 → ℝ} (hp : IsR p f) :
    IsR (shapeCast S256x1 (multiReduction .add [1] S256 p 0x00000000#32 reduces_S256x256_S256 (.inl rfl) rfl) shapeCasts_S256_S256x1 : FVec Ideal S256x1 .f32)
      (fun s _ => ∑ t, f s t) := fun s z => by
  rw [shapeCast_apply _ _ (ix2 s z) (ix1 s)
    (by rw [Shape.rowMajor_val_two]
        have hz : z.val = 0 := by omega
        show (S256.rowMajor (ix1 s)).val = s.val * 1 + z.val
        rw [hz]; simp [Shape.rowMajor_val_one])]
  refine (Ideal.multiReduction_add_single _ _ _ _ _ _).trans ?_
  rw [coe_sum]
  refine Finset.sum_congr rfl fun t _ => ?_
  rw [← hp s t]
  exact congrArg p (funext fun a => Fin.ext (by match a with | ⟨0, _⟩ => rfl | ⟨1, _⟩ => rfl))

theorem head_real (hq : IsR q (fun r n => qry A (rowB r) (rowS r) n * scale)) (hk : IsR k (fun r n => key A (rowB r) (rowS r) n))
    (hv : IsR v (fun r n => val A (rowB r) (rowS r) n))
    (hqr : IsR qr (fun r n => qryR A (rowB r) (rowS r) n * scale)) (hkr : IsR kr (fun r e => keyR A (rowB r) (rowS r) e))
    (b : Fin 2) (h : Fin 16) : IsR (Proto.head q k v qr kr b h) (fun s e => Attn.head A b h s e) := by
  have hb := b.isLt
  have hh := h.isLt
  have hp := expScore_real hq hk hqr hkr b h
  have hz := rowSum_real hp
  have hd : IsR (broadcastTo S256x64 (divf (broadcast S256x1 (Scalar.ofBits .f32 0x3F800000#32))
      (shapeCast S256x1 (multiReduction .add [1] S256 (expScore q k qr kr b h) 0x00000000#32 reduces_S256x256_S256 (.inl rfl) rfl) shapeCasts_S256_S256x1))
      broadcasts_S256x1_S256x64 : FVec Ideal S256x64 .f32) (fun s _ => 1 / ∑ t, Real.exp (score A b h s t)) := fun s e => by
    rw [broadcastTo_apply _ _ (ix2 s e) (ix2 s ⟨0, Nat.one_pos⟩) (fun a => match a with | ⟨0, _⟩ => rfl | ⟨1, _⟩ => rfl)]
    rw [divf_apply, hz, broadcast_apply]
    show Ideal.div (Ideal.ofBits .f32 0x3F800000#32) _ = _
    rw [Ideal.ofBits_one_f32, ← EReal.coe_one, div_real (sum_exp_pos _).ne']
  unfold Proto.head
  refine IsR.congr ((((hp.narrow _).dot (hv.slice (slices64 b h) (fun r => by omega) (fun c => by omega))).times hd).narrow _) fun s e => ?_
  simp only [rowB_at, rowS_at]
  rfl

/-! ## A row -/

theorem rowOf_real (hq : IsR q (fun r n => qry A (rowB r) (rowS r) n * scale)) (hk : IsR k (fun r n => key A (rowB r) (rowS r) n))
    (hv : IsR v (fun r n => val A (rowB r) (rowS r) n))
    (hqr : IsR qr (fun r n => qryR A (rowB r) (rowS r) n * scale)) (hkr : IsR kr (fun r e => keyR A (rowB r) (rowS r) e))
    {wo : FVec Ideal S1024x1024 .bf16} (hwo : IsR wo A.wo) (b : Fin 2) (z : Fin 1) (s : Fin 256) (n : Fin 1024) :
    rowOf q k v qr kr wo b (ix3 z s n) = ((out A b s n : ℝ) : EReal) := by
  have hc := IsR.concatCols (T := 1024) (fun h : Fin 16 => Proto.head q k v qr kr b h) (fun h s e => Attn.head A b h s e)
    (head_real hq hk hv hqr hkr b)
    concatenates_S256x64_S256x64_S256x64_S256x64_S256x64_S256x64_S256x64_S256x64_S256x64_S256x64_S256x64_S256x64_S256x64_S256x64_S256x64_S256x64_S256x1024_d1
    (by decide) (fun j => by omega)
  unfold rowOf
  rw [shapeCast_apply _ _ (ix3 z s n) (ix2 s n)
    (by rw [Shape.rowMajor_val_three, Shape.rowMajor_val_two]
        have hz : z.val = 0 := by omega
        show s.val * 1024 + n.val = (z.val * 256 + s.val) * 1024 + n.val
        rw [hz]; omega)]
  exact (hc.dot hwo) s n

/-! ## The whole result -/

variable (m : (ℓ : Loc nD τ sig) → Buf (Elt Ideal) ℓ) (ρ : Dev nD → PrngReg)

/-- The arguments the devices hold are the real numbers `A`: the replicated ones whole, the three cut ones each device's block. -/
structure Holds (A : Args) : Prop where
  x : ∀ c b s d, a0 m ρ c (ix3 b s d) = ((A.x b s d : ℝ) : EReal)
  wd : ∀ c, IsR (φ := .bf16) (a1 m ρ c) (fun d j => A.wd d (blk c j))
  wk : ∀ c, IsR (φ := .bf16) (a2 m ρ c) (fun j n => A.wk (blk c j) n)
  wv : ∀ c, IsR (φ := .bf16) (a3 m ρ c) (fun j n => A.wv (blk c j) n)
  wq : ∀ c, IsR (φ := .bf16) (a4 m ρ c) A.wq
  wqr : ∀ c, IsR (φ := .bf16) (a5 m ρ c) A.wqr
  wkr : ∀ c, IsR (φ := .bf16) (a6 m ρ c) A.wkr
  wo : ∀ c, IsR (φ := .bf16) (a7 m ρ c) A.wo

variable {m ρ}

theorem outAt_real (H : Holds m ρ A) (c : Dev nD) (b : Fin 2) (s : Fin 256) (n : Fin 1024) :
    outAt m ρ c (ix3 b s n) = ((out A b s n : ℝ) : EReal) := by
  have hx := fun c => pay4_real (H.x c)
  have hd : IsR (k0_pay47 (vC m ρ (pr (4 - 0) c)) (vC m ρ (pr (4 - 1) c)) (vC m ρ (pr (4 - 2) c)) (vC m ρ (pr (4 - 3) c)))
      (fun r j => lat A (rowB r) (rowS r) (turned (c.val / 4 % 4) j)) :=
    (pay47_real (fun i => vC m ρ (pr (4 - i.val) c)) _ fun i => pay5_real (hx _) (H.wd _)).congr
      fun r j => congrArg (lat A (rowB r) (rowS r)) (blk_turned c j)
  have hk48 : IsR (k0_pay48 (vK m ρ (pr (4 - 0) c)) (vK m ρ (pr (4 - 1) c)) (vK m ρ (pr (4 - 2) c)) (vK m ρ (pr (4 - 3) c)))
      (fun j n => A.wk (turned (c.val / 4 % 4) j) n) :=
    (pay48_real (fun i => vK m ρ (pr (4 - i.val) c)) (fun i j n => A.wk (blk (pr (4 - i.val) c) j) n) fun i => by
      unfold vK k0_pay6
      rw [shapeCast_self, shapeCast_shapeCast]
      exact H.wk _).congr fun j n => congrArg (fun x => A.wk x n) (blk_turned c j)
  have hv48 : IsR (k0_pay48 (vV m ρ (pr (4 - 0) c)) (vV m ρ (pr (4 - 1) c)) (vV m ρ (pr (4 - 2) c)) (vV m ρ (pr (4 - 3) c)))
      (fun j n => A.wv (turned (c.val / 4 % 4) j) n) :=
    (pay48_real (fun i => vV m ρ (pr (4 - i.val) c)) (fun i j n => A.wv (blk (pr (4 - i.val) c) j) n) fun i => by
      unfold vV k0_pay7
      rw [shapeCast_self, shapeCast_shapeCast]
      exact H.wv _).congr fun j n => congrArg (fun x => A.wv x n) (blk_turned c j)
  have row := rowOf_real (pay8_real (hx c) (H.wq c)) (pay51_real hd hk48) (pay51_real hd hv48) (pay9_real (hx c) (H.wqr c))
    (pay10_real (hx c) (H.wkr c)) (pay53_real (H.wo c))
  unfold outAt joinRows rowsAt
  rw [rows_eq]
  have hi : inRow (ix3 b s n) = ix3 ⟨0, Nat.one_pos⟩ s n := funext fun a => match a with | ⟨0, _⟩ => rfl | ⟨1, _⟩ => rfl | ⟨2, _⟩ => rfl
  show (if b.val = 0 then _ else _) = _
  rw [hi]
  by_cases hb : b.val = 0
  · obtain rfl : b = 0 := Fin.ext hb
    rw [if_pos hb]; exact row 0 _ s n
  · obtain rfl : b = 1 := Fin.ext (by have := b.isLt; show b.val = 1; omega)
    rw [if_neg hb]; exact row 1 _ s n

end Cert.KernelIdeal.Proto
-- ==== Proof.RefValue.lean ====
/-
# What the reference computes, in the real numbers

For arguments that hold the real numbers `A`, the reference's result holds `Attn.out A`. Each operation of its program is read at
an index; the largest score of a row, which the softmax subtracts, is only used to be some real number.
-/
module

public import proofs.«01_k».proof.Proof.Gen.ReferenceIdeal.Read
public import proofs.«01_k».proof.Proof.Attn
public import proofs.«01_k».proof.Proof.Reals
public import Idealize.ShloMosaic.Lib.IdealHost

@[expose] public section

noncomputable section

namespace Cert.ReferenceIdeal.Value

open Cert.ReferenceIdeal Cert.ReferenceIdeal.Gen Cert.ReferenceIdeal.Read Cert.Attn Cert.Reals
open Idealize.ShloMosaic Idealize.ShloMosaic.ValueIdx
open scoped BigOperators

/-! ## The constants -/

theorem word_96 : Ideal.ofBits .f32 0x42C00000#32 = ((96 : ℝ) : EReal) := by
  simp [Ideal.ofBits, Ideal.ieee, -EReal.coe_mul]; norm_num
theorem word_bot : Ideal.ofBits .f32 0xFF800000#32 = (⊥ : EReal) := by
  simp [Ideal.ofBits, Ideal.ieee]

/-- A sum of products, each of reals. -/
theorem sum_real {n : ℕ} {F G : Fin n → EReal} {f g : Fin n → ℝ} (hF : ∀ k, F k = ((f k : ℝ) : EReal)) (hG : ∀ k, G k = ((g k : ℝ) : EReal)) :
    ∑ k, F k * G k = ((∑ k, f k * g k : ℝ) : EReal) :=
  (Finset.sum_congr rfl fun k _ => by rw [hF, hG]).trans (sum_mul_coe _ _ _)

/-- The eight arguments of the reference are the real numbers `A`. -/
structure Holds (A : Args) (x0 : (⟨S2x256x1024, .bf16⟩ : BufTy).Contents (Elt Ideal)) (x1 : (⟨S1024x256, .bf16⟩ : BufTy).Contents (Elt Ideal))
    (x2 x3 : (⟨S256x1024, .bf16⟩ : BufTy).Contents (Elt Ideal)) (x4 : (⟨S1024x1024, .bf16⟩ : BufTy).Contents (Elt Ideal))
    (x5 : (⟨S1024x512, .bf16⟩ : BufTy).Contents (Elt Ideal)) (x6 : (⟨S1024x32, .bf16⟩ : BufTy).Contents (Elt Ideal))
    (x7 : (⟨S1024x1024, .bf16⟩ : BufTy).Contents (Elt Ideal)) : Prop where
  x : ∀ i, x0 i = ((A.x (i 0) (i 1) (i 2) : ℝ) : EReal)
  wd : ∀ i, x1 i = ((A.wd (i 0) (i 1) : ℝ) : EReal)
  wk : ∀ i, x2 i = ((A.wk (i 0) (i 1) : ℝ) : EReal)
  wv : ∀ i, x3 i = ((A.wv (i 0) (i 1) : ℝ) : EReal)
  wq : ∀ i, x4 i = ((A.wq (i 0) (i 1) : ℝ) : EReal)
  wqr : ∀ i, x5 i = ((A.wqr (i 0) (i 1) : ℝ) : EReal)
  wkr : ∀ i, x6 i = ((A.wkr (i 0) (i 1) : ℝ) : EReal)
  wo : ∀ i, x7 i = ((A.wo (i 0) (i 1) : ℝ) : EReal)

variable {A : Args} {x0 : (⟨S2x256x1024, .bf16⟩ : BufTy).Contents (Elt Ideal)} {x1 : (⟨S1024x256, .bf16⟩ : BufTy).Contents (Elt Ideal)}
  {x2 x3 : (⟨S256x1024, .bf16⟩ : BufTy).Contents (Elt Ideal)} {x4 : (⟨S1024x1024, .bf16⟩ : BufTy).Contents (Elt Ideal)}
  {x5 : (⟨S1024x512, .bf16⟩ : BufTy).Contents (Elt Ideal)} {x6 : (⟨S1024x32, .bf16⟩ : BufTy).Contents (Elt Ideal)}
  {x7 : (⟨S1024x1024, .bf16⟩ : BufTy).Contents (Elt Ideal)} (H : Holds A x0 x1 x2 x3 x4 x5 x6 x7)

include H

/-! ## The projections -/

theorem lat_at (i : S2x256x256.Idx) : val_main_v8 (F := Ideal) x0 x1 i = ((lat A (i 0) (i 1) (i 2) : ℝ) : EReal) :=
  (val_main_v8_apply x0 x1 i).trans (sum_real (fun k => H.x (lidx_main_v8 i k)) (fun k => H.wd (ridx_main_v8 i k)))

omit H in
/-- The 1024 columns, cut into the heads. -/
theorem by_heads (f : Fin 2 → Fin 256 → Fin 1024 → ℝ) (i : S2x256x16x64.Idx) :
    ((f (idx_main_v10 i 0) (idx_main_v10 i 1) (idx_main_v10 i 2) : ℝ) : EReal) = ((f (i 0) (i 1) (col64 (i 2) (i 3)) : ℝ) : EReal) := by
  have h0 : (i 0).val < 2 := (i 0).isLt
  have h1 : (i 1).val < 256 := (i 1).isLt
  have h2 : (i 2).val < 16 := (i 2).isLt
  have h3 : (i 3).val < 64 := (i 3).isLt
  refine congrArg (fun x : ℝ => (x : EReal)) ?_
  congr 1 <;> refine Fin.ext ?_
  · show ((((i 0).val * 256 + (i 1).val) * 16 + (i 2).val) * 64 + (i 3).val) / 262144 = (i 0).val
    omega
  · show ((((i 0).val * 256 + (i 1).val) * 16 + (i 2).val) * 64 + (i 3).val) / 1024 % 256 = (i 1).val
    omega
  · show ((((i 0).val * 256 + (i 1).val) * 16 + (i 2).val) * 64 + (i 3).val) % 1024 = 64 * (i 2).val + (i 3).val
    omega

theorem key_at (i : S2x256x16x64.Idx) : val_main_v10 (F := Ideal) x0 x1 x2 i = ((key A (i 0) (i 1) (col64 (i 2) (i 3)) : ℝ) : EReal) := by
  rw [val_main_v10_apply, val_main_v9_apply]
  exact (sum_real (fun k => lat_at H (lidx_main_v9 (idx_main_v10 i) k)) (fun k => H.wk (ridx_main_v9 (idx_main_v10 i) k))).trans (by_heads (key A) i)

theorem val_at (i : S2x256x16x64.Idx) : val_main_v12 (F := Ideal) x0 x1 x3 i = ((val A (i 0) (i 1) (col64 (i 2) (i 3)) : ℝ) : EReal) := by
  rw [val_main_v12_apply, val_main_v11_apply]
  exact (sum_real (fun k => lat_at H (lidx_main_v11 (idx_main_v12 i) k)) (fun k => H.wv (ridx_main_v11 (idx_main_v12 i) k))).trans (by_heads (val A) i)

theorem qry_at (i : S2x256x16x64.Idx) : val_main_v14 (F := Ideal) x0 x4 i = ((qry A (i 0) (i 1) (col64 (i 2) (i 3)) : ℝ) : EReal) := by
  rw [val_main_v14_apply, val_main_v13_apply]
  exact (sum_real (fun k => H.x (lidx_main_v13 (idx_main_v14 i) k)) (fun k => H.wq (ridx_main_v13 (idx_main_v14 i) k))).trans (by_heads (qry A) i)

theorem qryR_at (i : S2x256x16x32.Idx) : val_main_v16 (F := Ideal) x0 x5 i = ((qryR A (i 0) (i 1) (col32 (i 2) (i 3)) : ℝ) : EReal) := by
  have h0 : (i 0).val < 2 := (i 0).isLt
  have h1 : (i 1).val < 256 := (i 1).isLt
  have h2 : (i 2).val < 16 := (i 2).isLt
  have h3 : (i 3).val < 32 := (i 3).isLt
  rw [val_main_v16_apply, val_main_v15_apply]
  refine (sum_real (fun k => H.x (lidx_main_v15 (idx_main_v16 i) k)) (fun k => H.wqr (ridx_main_v15 (idx_main_v16 i) k))).trans ?_
  refine congrArg (fun x : ℝ => (x : EReal)) ?_
  show qryR A _ _ _ = qryR A _ _ _
  congr 1 <;> refine Fin.ext ?_
  · show ((((i 0).val * 256 + (i 1).val) * 16 + (i 2).val) * 32 + (i 3).val) / 131072 = (i 0).val
    omega
  · show ((((i 0).val * 256 + (i 1).val) * 16 + (i 2).val) * 32 + (i 3).val) / 512 % 256 = (i 1).val
    omega
  · show ((((i 0).val * 256 + (i 1).val) * 16 + (i 2).val) * 32 + (i 3).val) % 512 = 32 * (i 2).val + (i 3).val
    omega

theorem keyR_at (i : S2x256x16x32.Idx) : val_main_v22 (F := Ideal) x0 x6 i = ((keyR A (i 0) (i 1) (i 3) : ℝ) : EReal) := by
  have h0 : (i 0).val < 2 := (i 0).isLt
  have h1 : (i 1).val < 256 := (i 1).isLt
  have h3 : (i 3).val < 32 := (i 3).isLt
  rw [val_main_v22_apply, val_main_v18_apply, val_main_v17_apply]
  refine (sum_real (fun k => H.x (lidx_main_v17 (idx_main_v18 (idx_main_v22 i)) k)) (fun k => H.wkr (ridx_main_v17 (idx_main_v18 (idx_main_v22 i)) k))).trans ?_
  refine congrArg (fun x : ℝ => (x : EReal)) ?_
  show keyR A _ _ _ = keyR A _ _ _
  congr 1 <;> refine Fin.ext ?_
  · show ((((i 0).val * 256 + (i 1).val) * 1 + 0) * 32 + (i 3).val) / 8192 = (i 0).val
    omega
  · show ((((i 0).val * 256 + (i 1).val) * 1 + 0) * 32 + (i 3).val) / 32 % 256 = (i 1).val
    omega
  · show ((((i 0).val * 256 + (i 1).val) * 1 + 0) * 32 + (i 3).val) % 32 = (i 3).val
    omega

/-! ## The softmax -/

omit H in
theorem scale_at (i : S2x16x256x256.Idx) : val_main_v25 (F := Ideal) i = ((scale : ℝ) : EReal) := by
  rw [val_main_v25_apply, val_main_v20_apply, val_main_v19_apply, val_main_cst_apply, val_main_cst_0_apply]
  show Ideal.div (Ideal.ofBits .f32 0x3F800000#32) (Ideal.sqrt (Ideal.ofBits .f32 0x42C00000#32)) = _
  rw [word_96, Ideal.ofBits_one_f32, Ideal.sqrt_coe, if_neg (by norm_num), ← EReal.coe_one,
    div_real (Real.sqrt_pos.mpr (by norm_num)).ne', one_div]
  rfl

theorem score_at (i : S2x16x256x256.Idx) : val_main_v26 (F := Ideal) x0 x1 x2 x4 x5 x6 i = ((score A (i 0) (i 1) (i 2) (i 3) : ℝ) : EReal) := by
  rw [val_main_v26_apply, val_main_v24_apply, scale_at, val_main_v21_apply, val_main_v23_apply,
    sum_real (fun k => qry_at H (lidx_main_v21 i k)) (fun k => key_at H (ridx_main_v21 i k)),
    sum_real (fun k => qryR_at H (lidx_main_v23 i k)) (fun k => keyR_at H (ridx_main_v23 i k))]
  show (((_ : ℝ) : EReal) + ((_ : ℝ) : EReal)) * ((_ : ℝ) : EReal) = _
  rw [← EReal.coe_add, ← EReal.coe_mul]
  rfl

/-- The largest score of a row is a real number. -/
theorem max_at : ∃ M : Fin 2 → Fin 16 → Fin 256 → ℝ, ∀ i, val_main_v27 (F := Ideal) x0 x1 x2 x4 x5 x6 i = ((M (i 0) (i 1) (i 2) : ℝ) : EReal) := by
  have h : ∀ i, ∃ r : ℝ, val_main_v27 (F := Ideal) x0 x1 x2 x4 x5 x6 i = ((r : ℝ) : EReal) := fun i => by
    unfold val_main_v27
    have hb : val_main_cst_1 (F := Ideal) (Shape.Idx.first h_S_) = (⊥ : EReal) := word_bot
    refine foldl_max_real (fun n => val_main_v26 (F := Ideal) x0 x1 x2 x4 x5 x6 (S2x16x256x256.rowMajor.symm n)) (fun n => ⟨_, score_at H _⟩) _ _
      (by rw [hb]; exact bot_ne_top) (.inr (List.ne_nil_of_mem (a := S2x16x256x256.rowMajor (ix4 (i 0) (i 1) (i 2) ⟨0, by decide⟩)) ?_))
    rw [List.mem_filter]
    refine ⟨List.mem_finRange _, decide_eq_true ?_⟩
    rw [Equiv.symm_apply_apply]
    funext a
    exact Fin.ext (by match a with | ⟨0, _⟩ => rfl | ⟨1, _⟩ => rfl | ⟨2, _⟩ => rfl)
  choose r hr using h
  exact ⟨fun a b c => r (ix3 a b c), fun i => (hr i).trans (congrArg (fun j => ((r j : ℝ) : EReal)) (eq_ix3 i))⟩

theorem head_at (i : S2x16x64x256.Idx) : val_main_v36 (F := Ideal) x0 x1 x2 x3 x4 x5 x6 i = ((head A (i 0) (i 1) (i 3) (i 2) : ℝ) : EReal) := by
  obtain ⟨M, hM⟩ := max_at H
  have he : ∀ j, val_main_v31 (F := Ideal) x0 x1 x2 x4 x5 x6 j
      = ((Real.exp (score A (j 0) (j 1) (j 2) (j 3) - M (j 0) (j 1) (j 2)) : ℝ) : EReal) := fun j => by
    rw [val_main_v31_apply, val_main_v30_apply, val_main_v29_apply, val_main_v28_apply, score_at H, hM]
    show Ideal.exp (((_ : ℝ) : EReal) - ((_ : ℝ) : EReal)) = _
    rw [← EReal.coe_sub, Ideal.exp_coe]
    rfl
  have hz : ∀ j, val_main_v34 (F := Ideal) x0 x1 x2 x4 x5 x6 j
      = ((∑ u, Real.exp (score A (j 0) (j 1) (j 2) u - M (j 0) (j 1) (j 2)) : ℝ) : EReal) := fun j => by
    rw [val_main_v34_apply, val_main_v33_apply, val_main_v32_apply, val_main_cst_2_apply]
    show Ideal.ofBits .f32 0x00000000#32 + _ = _
    rw [Ideal.ofBits_zero_f32, zero_add, coe_sum]
    exact Finset.sum_congr rfl fun u _ => he _
  have hp : ∀ j, val_main_v35 (F := Ideal) x0 x1 x2 x4 x5 x6 j
      = ((Real.exp (score A (j 0) (j 1) (j 2) (j 3) - M (j 0) (j 1) (j 2)) / ∑ u, Real.exp (score A (j 0) (j 1) (j 2) u - M (j 0) (j 1) (j 2)) : ℝ) : EReal) := fun j => by
    rw [val_main_v35_apply, he, hz]
    exact div_real (sum_exp_pos _).ne'
  rw [val_main_v36_apply, sum_real (fun k => val_at H (lidx_main_v36 i k)) (fun k => hp (ridx_main_v36 i k))]
  exact congrArg (fun x : ℝ => (x : EReal)) (head_eq_shifted A (i 0) (i 1) (i 3) (i 2) (M (i 0) (i 1) (i 3)))

/-! ## The result -/

theorem out_at (i : S2x256x1024.Idx) : val_main_v39 (F := Ideal) x0 x1 x2 x3 x4 x5 x6 x7 i = ((out A (i 0) (i 1) (i 2) : ℝ) : EReal) := by
  have hh : ∀ j : S2x256x1024.Idx, val_main_v38 (F := Ideal) x0 x1 x2 x3 x4 x5 x6 j = ((head A (j 0) (headOf (j 2)) (j 1) (inHead (j 2)) : ℝ) : EReal) := fun j => by
    have h0 : (j 0).val < 2 := (j 0).isLt
    have h1 : (j 1).val < 256 := (j 1).isLt
    have h2 : (j 2).val < 1024 := (j 2).isLt
    rw [val_main_v38_apply, val_main_v37_apply, head_at H]
    refine congrArg (fun x : ℝ => (x : EReal)) ?_
    congr 1 <;> refine Fin.ext ?_
    · show (((j 0).val * 256 + (j 1).val) * 1024 + (j 2).val) / 262144 = (j 0).val
      omega
    · show (((j 0).val * 256 + (j 1).val) * 1024 + (j 2).val) / 64 % 16 = (j 2).val / 64
      omega
    · show (((j 0).val * 256 + (j 1).val) * 1024 + (j 2).val) / 1024 % 256 = (j 1).val
      omega
    · show (((j 0).val * 256 + (j 1).val) * 1024 + (j 2).val) % 64 = (j 2).val % 64
      omega
  rw [val_main_v39_apply]
  exact sum_real (fun k => hh (lidx_main_v39 i k)) (fun k => H.wo (ridx_main_v39 i k))

end Cert.ReferenceIdeal.Value
-- ==== Proof.Algebraic.lean ====
/-
# The results agree

On finite arguments, each device's block of a cut argument being the block of the reference's array that its mesh coordinate
names, every device's result is the reference's.
-/
module

public import proofs.«01_k».proof.Defs
public import proofs.«01_k».proof.Proof.Gen.Pre_finite_KernelIdeal
public import proofs.«01_k».proof.Proof.KernelIdeal.Final
public import proofs.«01_k».proof.Proof.KernelIdeal.Value
public import proofs.«01_k».proof.Proof.RefValue

@[expose] public section

noncomputable section

namespace Cert.Proof

open Idealize.ShloMosaic Idealize.ShloMosaic.ValueIdx Idealize.SL.Sem

/-! ## Finite arguments are real numbers -/

theorem word_top : Ideal.ofBits .f32 0x7F800000#32 = (⊤ : EReal) := by
  simp [Ideal.ofBits, Ideal.ieee]

/-- An array whose entries are below infinity in absolute value holds real numbers. -/
theorem real_of_finite {S : Shape} (x : FVec Ideal S .bf16) (hb : FTy.bits .bf16 < FTy.bits .f32)
    (hS : (⟨0, ![]⟩ : Shape).BroadcastsInDim S (![] : Fin 0 → Fin S.rank))
    (H : cmpf .olt (Host.absf (extf .f32 x hb)) (broadcastInDim S ![] hS (constant ⟨0, ![]⟩ .f32 0x7F800000#32)) = fun _ => 1#1) (i : S.Idx) :
    x i = (((x i).toReal : ℝ) : EReal) := by
  have h : Ideal.cmp .olt (max (x i) (-(x i))) (Ideal.ofBits .f32 0x7F800000#32) = 1#1 := congrFun H i
  rw [word_top] at h
  have hlt : max (x i) (-(x i)) < (⊤ : EReal) := by
    by_contra hn
    rw [show Ideal.cmp .olt (max (x i) (-(x i))) ⊤ = BitVec.ofBool (decide (max (x i) (-(x i)) < (⊤ : EReal))) from rfl, decide_eq_false hn] at h
    exact absurd h (by decide)
  have ht : x i ≠ ⊤ := fun e => by rw [e] at hlt; exact absurd hlt (by simp)
  have hbt : x i ≠ ⊥ := fun e => by rw [e] at hlt; exact absurd hlt (by simp)
  exact (EReal.coe_toReal ht hbt).symm

/-! ## The blocks of the mesh -/

section Blocks

open Cert.KernelIdeal Cert.KernelIdeal.Proto

/-- The columns a device holds, … -/
theorem block_cols (v : (⟨2, ![1024, 256]⟩ : Shape).Idx → Ideal .bf16) (c : Dev nD) (d : Fin 1024) (j : Fin 64) :
    Layout.blockN ⟨2, ![1024, 64]⟩ ⟨2, ![1024, 256]⟩ (Layout.meshBlock [2, 4, 4] ![[], [1]] c) v (by decide) (ix2 d j) = v (ix2 d (blk c j)) := by
  refine congrArg v (funext fun a => Fin.ext ?_)
  match a with
  | ⟨0, _⟩ => show 0 * 1024 + d.val = d.val; omega
  | ⟨1, _⟩ => show (c.val / 4 % 4 * 1 + 0) * 64 + j.val = 64 * (c.val / 4 % 4) + j.val; omega

/-- … and the rows. -/
theorem block_rows (v : (⟨2, ![256, 1024]⟩ : Shape).Idx → Ideal .bf16) (c : Dev nD) (j : Fin 64) (n : Fin 1024) :
    Layout.blockN ⟨2, ![64, 1024]⟩ ⟨2, ![256, 1024]⟩ (Layout.meshBlock [2, 4, 4] ![[1], []] c) v (by decide) (ix2 j n) = v (ix2 (blk c j) n) := by
  refine congrArg v (funext fun a => Fin.ext ?_)
  match a with
  | ⟨0, _⟩ => show (c.val / 4 % 4 * 1 + 0) * 64 + j.val = 64 * (c.val / 4 % 4) + j.val; omega
  | ⟨1, _⟩ => show 0 * 1024 + n.val = n.val; omega

/-- Every position of the latent is in some device's block. -/
theorem blk_onto (l : Fin 256) : ∃ (c : Dev nD) (j : Fin 64), blk c j = l :=
  ⟨⟨4 * (l.val / 64), by have := l.isLt; show 4 * (l.val / 64) < 32; omega⟩, ⟨l.val % 64, by omega⟩,
    Fin.ext (by have := l.isLt; show 64 * (4 * (l.val / 64) / 4 % 4) + l.val % 64 = l.val; omega)⟩

end Blocks

/-! ## The claim -/

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hargs
  let y0 := m' (((0 : Dev Cert.ReferenceIdeal.nD).tc : Thread Cert.ReferenceIdeal.nD Cert.ReferenceIdeal.τ).loc Cert.ReferenceIdeal.main_arg0)
  let y1 := m' (((0 : Dev Cert.ReferenceIdeal.nD).tc : Thread Cert.ReferenceIdeal.nD Cert.ReferenceIdeal.τ).loc Cert.ReferenceIdeal.main_arg1)
  let y2 := m' (((0 : Dev Cert.ReferenceIdeal.nD).tc : Thread Cert.ReferenceIdeal.nD Cert.ReferenceIdeal.τ).loc Cert.ReferenceIdeal.main_arg2)
  let y3 := m' (((0 : Dev Cert.ReferenceIdeal.nD).tc : Thread Cert.ReferenceIdeal.nD Cert.ReferenceIdeal.τ).loc Cert.ReferenceIdeal.main_arg3)
  let y4 := m' (((0 : Dev Cert.ReferenceIdeal.nD).tc : Thread Cert.ReferenceIdeal.nD Cert.ReferenceIdeal.τ).loc Cert.ReferenceIdeal.main_arg4)
  let y5 := m' (((0 : Dev Cert.ReferenceIdeal.nD).tc : Thread Cert.ReferenceIdeal.nD Cert.ReferenceIdeal.τ).loc Cert.ReferenceIdeal.main_arg5)
  let y6 := m' (((0 : Dev Cert.ReferenceIdeal.nD).tc : Thread Cert.ReferenceIdeal.nD Cert.ReferenceIdeal.τ).loc Cert.ReferenceIdeal.main_arg6)
  let y7 := m' (((0 : Dev Cert.ReferenceIdeal.nD).tc : Thread Cert.ReferenceIdeal.nD Cert.ReferenceIdeal.τ).loc Cert.ReferenceIdeal.main_arg7)
  -- the arguments of the devices, entry by entry, as entries of the reference's
  have e0 : ∀ c i, KernelIdeal.Proto.a0 m g c i = y0 i := fun c i => (congrFun (KernelIdeal.Proto.a0_eq m g c) i).trans (congrFun (hargs c).1 i)
  have e1 : ∀ c d j, KernelIdeal.Proto.a1 m g c (ix2 d j) = y1 (ix2 d (KernelIdeal.Proto.blk c j)) := fun c d j =>
    (congrFun (KernelIdeal.Proto.a1_eq m g c) _).trans ((congrFun (hargs c).2.1 _).trans (block_cols y1 c d j))
  have e2 : ∀ c j n, KernelIdeal.Proto.a2 m g c (ix2 j n) = y2 (ix2 (KernelIdeal.Proto.blk c j) n) := fun c j n =>
    (congrFun (KernelIdeal.Proto.a2_eq m g c) _).trans ((congrFun (hargs c).2.2.1 _).trans (block_rows y2 c j n))
  have e3 : ∀ c j n, KernelIdeal.Proto.a3 m g c (ix2 j n) = y3 (ix2 (KernelIdeal.Proto.blk c j) n) := fun c j n =>
    (congrFun (KernelIdeal.Proto.a3_eq m g c) _).trans ((congrFun (hargs c).2.2.2.1 _).trans (block_rows y3 c j n))
  have e4 : ∀ c i, KernelIdeal.Proto.a4 m g c i = y4 i := fun c i => (congrFun (KernelIdeal.Proto.a4_eq m g c) i).trans (congrFun (hargs c).2.2.2.2.1 i)
  have e5 : ∀ c i, KernelIdeal.Proto.a5 m g c i = y5 i := fun c i => (congrFun (KernelIdeal.Proto.a5_eq m g c) i).trans (congrFun (hargs c).2.2.2.2.2.1 i)
  have e6 : ∀ c i, KernelIdeal.Proto.a6 m g c i = y6 i := fun c i => (congrFun (KernelIdeal.Proto.a6_eq m g c) i).trans (congrFun (hargs c).2.2.2.2.2.2.1 i)
  have e7 : ∀ c i, KernelIdeal.Proto.a7 m g c i = y7 i := fun c i => (congrFun (KernelIdeal.Proto.a7_eq m g c) i).trans (congrFun (hargs c).2.2.2.2.2.2.2 i)
  -- they are real numbers
  have r0 : ∀ i, y0 i = (((y0 i).toReal : ℝ) : EReal) := fun i => by
    rw [← e0 0 i, KernelIdeal.Proto.a0_eq]; exact real_of_finite _ _ _ (hpre 0).1 i
  have r1 : ∀ d l, y1 (ix2 d l) = (((y1 (ix2 d l)).toReal : ℝ) : EReal) := fun d l => by
    obtain ⟨c, j, rfl⟩ := blk_onto l
    rw [← e1 c d j, KernelIdeal.Proto.a1_eq]; exact real_of_finite _ _ _ (hpre c).2.1 _
  have r2 : ∀ l n, y2 (ix2 l n) = (((y2 (ix2 l n)).toReal : ℝ) : EReal) := fun l n => by
    obtain ⟨c, j, rfl⟩ := blk_onto l
    rw [← e2 c j n, KernelIdeal.Proto.a2_eq]; exact real_of_finite _ _ _ (hpre c).2.2.1 _
  have r3 : ∀ l n, y3 (ix2 l n) = (((y3 (ix2 l n)).toReal : ℝ) : EReal) := fun l n => by
    obtain ⟨c, j, rfl⟩ := blk_onto l
    rw [← e3 c j n, KernelIdeal.Proto.a3_eq]; exact real_of_finite _ _ _ (hpre c).2.2.2.1 _
  have r4 : ∀ i, y4 i = (((y4 i).toReal : ℝ) : EReal) := fun i => by
    rw [← e4 0 i, KernelIdeal.Proto.a4_eq]; exact real_of_finite _ _ _ (hpre 0).2.2.2.2.1 i
  have r5 : ∀ i, y5 i = (((y5 i).toReal : ℝ) : EReal) := fun i => by
    rw [← e5 0 i, KernelIdeal.Proto.a5_eq]; exact real_of_finite _ _ _ (hpre 0).2.2.2.2.2.1 i
  have r6 : ∀ i, y6 i = (((y6 i).toReal : ℝ) : EReal) := fun i => by
    rw [← e6 0 i, KernelIdeal.Proto.a6_eq]; exact real_of_finite _ _ _ (hpre 0).2.2.2.2.2.2.1 i
  have r7 : ∀ i, y7 i = (((y7 i).toReal : ℝ) : EReal) := fun i => by
    rw [← e7 0 i, KernelIdeal.Proto.a7_eq]; exact real_of_finite _ _ _ (hpre 0).2.2.2.2.2.2.2 i
  let A : Attn.Args :=
    { x := fun b s d => (y0 (ix3 b s d)).toReal, wd := fun d l => (y1 (ix2 d l)).toReal, wk := fun l n => (y2 (ix2 l n)).toReal,
      wv := fun l n => (y3 (ix2 l n)).toReal, wq := fun d n => (y4 (ix2 d n)).toReal, wqr := fun d n => (y5 (ix2 d n)).toReal,
      wkr := fun d n => (y6 (ix2 d n)).toReal, wo := fun d n => (y7 (ix2 d n)).toReal }
  have hk : KernelIdeal.Proto.Holds m g A :=
    { x := fun c b s d => (e0 c _).trans (r0 _), wd := fun c d j => (e1 c d j).trans (r1 _ _), wk := fun c j n => (e2 c j n).trans (r2 _ _),
      wv := fun c j n => (e3 c j n).trans (r3 _ _), wq := fun c r n => (e4 c _).trans (r4 _), wqr := fun c r n => (e5 c _).trans (r5 _),
      wkr := fun c r n => (e6 c _).trans (r6 _), wo := fun c r n => (e7 c _).trans (r7 _) }
  have hr : ReferenceIdeal.Value.Holds A y0 y1 y2 y3 y4 y5 y6 y7 :=
    { x := fun i => (congrArg y0 (eq_ix3 i)).trans (r0 _), wd := fun i => (congrArg y1 (eq_ix2 i)).trans (r1 _ _),
      wk := fun i => (congrArg y2 (eq_ix2 i)).trans (r2 _ _), wv := fun i => (congrArg y3 (eq_ix2 i)).trans (r3 _ _),
      wq := fun i => (congrArg y4 (eq_ix2 i)).trans (r4 _), wqr := fun i => (congrArg y5 (eq_ix2 i)).trans (r5 _),
      wkr := fun i => (congrArg y6 (eq_ix2 i)).trans (r6 _), wo := fun i => (congrArg y7 (eq_ix2 i)).trans (r7 _) }
  have same : ∀ c : Dev Cert.KernelIdeal.nD, KernelIdeal.Proto.outAt m g c = ReferenceIdeal.Read.val_main_v39 (F := Ideal) y0 y1 y2 y3 y4 y5 y6 y7 := fun c =>
    funext fun i => (congrArg (KernelIdeal.Proto.outAt m g c) (eq_ix3 i)).trans
      ((KernelIdeal.Proto.outAt_real hk c (i 0) (i 1) (i 2)).trans (ReferenceIdeal.Value.out_at hr i).symm)
  refine ⟨ReferenceIdeal.Read.val_main_v39 (F := Ideal) y0 y1 y2 y3 y4 y5 y6 y7, ?_, ?_⟩
  · exact (θ_run Cert.KernelIdeal.defs _ _).mono (fun _ h c => ⟨(h.1 c).1.trans (same c), (h.1 c).2⟩)
      (KernelIdeal.Proto.run_final (F := Ideal) m g)
  · exact (θ_run Cert.ReferenceIdeal.defs _ _).mono (fun _ h => ⟨((h 0).1).trans (ReferenceIdeal.Read.val_main_v39_eq m' 0), (h 0).2⟩)
      (Cert.ReferenceIdeal.Value.run (F := Ideal) m' g')

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Kernel.Final
public import proofs.«01_k».proof.Proof.KernelIdeal.Final
public import proofs.«01_k».proof.Proof.Algebraic
public import Idealize.ShloMosaic.Lib.Quiescent

@[expose] public section

noncomputable section

namespace Cert.Proof

open Idealize.ShloMosaic Idealize.SL.Sem

/-- The kernel on words runs, and leaves its arguments and counters as they were. -/
theorem frame_Kernel : Cert.quiescent_Kernel (hKernel := Cert.Kernel.Gen.facts) := fun m ρ _ =>
  (θ_run Cert.Kernel.defs _ _).mono (fun _ h => ⟨fun c => (h.1 c).2, h.2⟩) (Cert.Kernel.Proto.run_final (F := Bits) m ρ)

/-- So does the kernel over the extended reals, … -/
theorem frame_KernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Proto.run_final (F := Ideal) m ρ)

/-- … on finite arguments too, … -/
theorem frame_KernelIdeal_finite : Cert.quiescent_KernelIdeal_pre_finite_KernelIdeal (hKernelIdeal := Cert.KernelIdeal.Gen.facts)
    (hPre_finite_KernelIdeal := Cert.Pre_finite_KernelIdeal.Gen.facts) := fun m ρ _ => frame_KernelIdeal m ρ trivial

/-- … and the reference. -/
theorem frame_ReferenceIdeal : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_ReferenceIdeal_finite : Cert.quiescent_ReferenceIdeal_pre_finite_ReferenceIdeal (hReferenceIdeal := Cert.ReferenceIdeal.Gen.facts)
    (hPre_finite_ReferenceIdeal := Cert.Pre_finite_ReferenceIdeal.Gen.facts) := fun m ρ _ => frame_ReferenceIdeal m ρ trivial

/-- The named scale: the kernel's literal stands for `1 / √96`. -/
theorem preserves : Cert.preserves_Kernel_KernelIdeal :=
  IdealRules.named_const.statement Cert.KernelIdeal.κ "scale" .f32 0x3DD105EC#32 (((Real.sqrt 96)⁻¹ : ℝ) : EReal) rfl

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_Kernel, frame_KernelIdeal, frame_KernelIdeal_finite, frame_ReferenceIdeal,
    frame_ReferenceIdeal_finite, preserves, algebraic⟩

end Cert.Proof

end
